-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_vocab [hPre_targets_in_vocab : Cert.Pre_targets_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_vocab [hPre_targets_in_vocab : Cert.Pre_targets_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_targets_in_vocab [hKernelIdeal : Cert.KernelIdeal.Facts] [hPre_targets_in_vocab : Cert.Pre_targets_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_targets_in_vocab [hReferenceIdeal : Cert.ReferenceIdeal.Facts] [hPre_targets_in_vocab : Cert.Pre_targets_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_targets_in_vocab [hKernelIdeal : Cert.KernelIdeal.Facts] [hReferenceIdeal : Cert.ReferenceIdeal.Facts] [hPre_targets_in_vocab : Cert.Pre_targets_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_targets_in_vocab : Cert.Pre_targets_in_vocab.Facts),
    quiescent_Kernel (hKernel := hKernel)
    ∧ quiescent_KernelIdeal (hKernelIdeal := hKernelIdeal)
    ∧ quiescent_KernelIdeal_pre_targets_in_vocab (hKernelIdeal := hKernelIdeal) (hPre_targets_in_vocab := hPre_targets_in_vocab)
    ∧ quiescent_ReferenceIdeal (hReferenceIdeal := hReferenceIdeal)
    ∧ quiescent_ReferenceIdeal_pre_targets_in_vocab (hReferenceIdeal := hReferenceIdeal) (hPre_targets_in_vocab := hPre_targets_in_vocab)
    ∧ preserves_Kernel_KernelIdeal
    ∧ algebraic_KernelIdeal_ReferenceIdeal_pre_targets_in_vocab (hKernelIdeal := hKernelIdeal) (hReferenceIdeal := hReferenceIdeal) (hPre_targets_in_vocab := hPre_targets_in_vocab)
-- ==== Pre_targets_in_vocab.lean ====
abbrev S15360x2560 : Shape := ⟨2, ![15360, 2560]⟩
abbrev S15360x1 : Shape := ⟨2, ![15360, 1]⟩
abbrev S2560x151936 : Shape := ⟨2, ![2560, 151936]⟩
abbrev S20x1187 : Shape := ⟨2, ![20, 1187]⟩
abbrev S_ : Shape := ⟨0, ![]⟩

class Facts : Prop where
  bcast_S_S15360x1 : S_.BroadcastsInDim S15360x1 (![] : Fin 0 → Fin S15360x1.rank)

variable [Facts]

def fn {F : FTy → Type} [FloatOps F] (main_arg0 : FVec F S15360x2560 .bf16) (main_arg1 : IVec S15360x1 32) (main_arg2 : FVec F S2560x151936 .fp8e4m3) (main_arg3 : FVec F S20x1187 .f32) : IVec S15360x1 1 :=
  let main_c : IVec S_ 32 := constantI S_ 32 0#32
  let main_v0 : IVec S15360x1 32 := broadcastInDim S15360x1 ![] bcast_S_S15360x1 main_c
  let main_v1 : IVec S15360x1 1 := cmpi .sge main_arg1 main_v0
  let main_c_0 : IVec S_ 32 := constantI S_ 32 151936#32
  let main_v2 : IVec S15360x1 32 := broadcastInDim S15360x1 ![] bcast_S_S15360x1 main_c_0
  let main_v3 : IVec S15360x1 1 := cmpi .slt main_arg1 main_v2
  let main_v4 : IVec S15360x1 1 := andi main_v1 main_v3
  main_v4
-- ==== Kernel.lean ====
abbrev S15360x2560 : Shape := ⟨2, ![15360, 2560]⟩
abbrev S15360x1 : Shape := ⟨2, ![15360, 1]⟩
abbrev S2560x151936 : Shape := ⟨2, ![2560, 151936]⟩
abbrev S20x1187 : Shape := ⟨2, ![20, 1187]⟩
abbrev S1536x2560 : Shape := ⟨2, ![1536, 2560]⟩
abbrev S1536x1 : Shape := ⟨2, ![1536, 1]⟩
abbrev S2560x512 : Shape := ⟨2, ![2560, 512]⟩
abbrev S1536x128 : Shape := ⟨2, ![1536, 128]⟩
abbrev S1x1 : Shape := ⟨2, ![1, 1]⟩
abbrev S128x128 : Shape := ⟨2, ![128, 128]⟩
abbrev S1536x512 : Shape := ⟨2, ![1536, 512]⟩
abbrev S1536 : Shape := ⟨1, ![1536]⟩

abbrev nBuf : Space → Nat
  | .hbm => 5
  | .vmem => 12
  | .smem => 1
  | _ => 0

abbrev bufTy : (tb : Table) → Fin (tcTables nBuf tb) → BufTy
  | .hbm, ⟨0, _⟩ => ⟨S15360x2560, .bf16⟩
  | .hbm, ⟨1, _⟩ => ⟨S15360x1, .i32⟩
  | .hbm, ⟨2, _⟩ => ⟨S2560x151936, .fp8e4m3⟩
  | .hbm, ⟨3, _⟩ => ⟨S20x1187, .f32⟩
  | .hbm, ⟨4, _⟩ => ⟨S15360x1, .f32⟩
  | .local _ .vmem, ⟨0, _⟩ => ⟨S1536x2560, .bf16⟩
  | .local _ .vmem, ⟨1, _⟩ => ⟨S1536x2560, .bf16⟩
  | .local _ .vmem, ⟨2, _⟩ => ⟨S1536x1, .i32⟩
  | .local _ .vmem, ⟨3, _⟩ => ⟨S1536x1, .i32⟩
  | .local _ .vmem, ⟨4, _⟩ => ⟨S2560x512, .fp8e4m3⟩
  | .local _ .vmem, ⟨5, _⟩ => ⟨S2560x512, .fp8e4m3⟩
  | .local _ .vmem, ⟨6, _⟩ => ⟨S1536x1, .f32⟩
  | .local _ .vmem, ⟨7, _⟩ => ⟨S1536x1, .f32⟩
  | .local _ .vmem, ⟨8, _⟩ => ⟨S2560x512, .bf16⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .smem, ⟨0, _⟩ => ⟨S20x1187, .f32⟩
  | _, _ => ⟨S15360x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![10, 297], ![false, false]⟩

def k0_off1 (i : grid0.Coords) (c0_i32 : BitVec 32) : Fin 2 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c1186_i32 : BitVec 32 := 1186#32
  let v2 : BitVec 32 := Scalar.minsi v1 c1186_i32
  let v3 : Index := Scalar.indexCast v2
  ![0, v3.toNat]
def k0_off2 (i : grid0.Coords) (c0_i32_23 : BitVec 32) : Fin 2 → Nat :=
  let c1 : Index := 1#32
  let arg1 : BitVec 32 := BitVec.ofNat 32 (i 1).val
  let c4_i32_22 : BitVec 32 := 4#32
  let v52 : BitVec 32 := Scalar.muli arg1 c4_i32_22
  let v53 : BitVec 32 := Scalar.addi v52 c0_i32_23
  let c1186_i32_24 : BitVec 32 := 1186#32
  let v54 : BitVec 32 := Scalar.minsi v53 c1186_i32_24
  let v55 : Index := Scalar.indexCast v54
  ![1, v55.toNat]
def k0_off3 (i : grid0.Coords) (c0_i32_54 : BitVec 32) : Fin 2 → Nat :=
  let c2 : Index := 2#32
  let arg1 : BitVec 32 := BitVec.ofNat 32 (i 1).val
  let c4_i32_53 : BitVec 32 := 4#32
  let v104 : BitVec 32 := Scalar.muli arg1 c4_i32_53
  let v105 : BitVec 32 := Scalar.addi v104 c0_i32_54
  let c1186_i32_55 : BitVec 32 := 1186#32
  let v106 : BitVec 32 := Scalar.minsi v105 c1186_i32_55
  let v107 : Index := Scalar.indexCast v106
  ![2, v107.toNat]
def k0_off4 (i : grid0.Coords) (c0_i32_85 : BitVec 32) : Fin 2 → Nat :=
  let c3 : Index := 3#32
  let arg1 : BitVec 32 := BitVec.ofNat 32 (i 1).val
  let c4_i32_84 : BitVec 32 := 4#32
  let v156 : BitVec 32 := Scalar.muli arg1 c4_i32_84
  let v157 : BitVec 32 := Scalar.addi v156 c0_i32_85
  let c1186_i32_86 : BitVec 32 := 1186#32
  let v158 : BitVec 32 := Scalar.minsi v157 c1186_i32_86
  let v159 : Index := Scalar.indexCast v158
  ![3, v159.toNat]
def k0_off5 (i : grid0.Coords) (c0_i32_116 : BitVec 32) : Fin 2 → Nat :=
  let c4 : Index := 4#32
  let arg1 : BitVec 32 := BitVec.ofNat 32 (i 1).val
  let c4_i32_115 : BitVec 32 := 4#32
  let v208 : BitVec 32 := Scalar.muli arg1 c4_i32_115
  let v209 : BitVec 32 := Scalar.addi v208 c0_i32_116
  let c1186_i32_117 : BitVec 32 := 1186#32
  let v210 : BitVec 32 := Scalar.minsi v209 c1186_i32_117
  let v211 : Index := Scalar.indexCast v210
  ![4, v211.toNat]
def k0_off6 (i : grid0.Coords) (c0_i32_146 : BitVec 32) : Fin 2 → Nat :=
  let c5 : Index := 5#32
  let arg1 : BitVec 32 := BitVec.ofNat 32 (i 1).val
  let c4_i32_145 : BitVec 32 := 4#32
  let v260 : BitVec 32 := Scalar.muli arg1 c4_i32_145
  let v261 : BitVec 32 := Scalar.addi v260 c0_i32_146
  let c1186_i32_147 : BitVec 32 := 1186#32
  let v262 : BitVec 32 := Scalar.minsi v261 c1186_i32_147
  let v263 : Index := Scalar.indexCast v262
  ![5, v263.toNat]
def k0_off7 (i : grid0.Coords) (c0_i32_176 : BitVec 32) : Fin 2 → Nat :=
  let c6 : Index := 6#32
  let arg1 : BitVec 32 := BitVec.ofNat 32 (i 1).val
  let c4_i32_175 : BitVec 32 := 4#32
  let v312 : BitVec 32 := Scalar.muli arg1 c4_i32_175
  let v313 : BitVec 32 := Scalar.addi v312 c0_i32_176
  let c1186_i32_177 : BitVec 32 := 1186#32
  let v314 : BitVec 32 := Scalar.minsi v313 c1186_i32_177
  let v315 : Index := Scalar.indexCast v314
  ![6, v315.toNat]
def k0_off8 (i : grid0.Coords) (c0_i32_206 : BitVec 32) : Fin 2 → Nat :=
  let c7 : Index := 7#32
  let arg1 : BitVec 32 := BitVec.ofNat 32 (i 1).val
  let c4_i32_205 : BitVec 32 := 4#32
  let v364 : BitVec 32 := Scalar.muli arg1 c4_i32_205
  let v365 : BitVec 32 := Scalar.addi v364 c0_i32_206
  let c1186_i32_207 : BitVec 32 := 1186#32
  let v366 : BitVec 32 := Scalar.minsi v365 c1186_i32_207
  let v367 : Index := Scalar.indexCast v366
  ![7, v367.toNat]
def k0_off9 (i : grid0.Coords) (c0_i32_236 : BitVec 32) : Fin 2 → Nat :=
  let c8 : Index := 8#32
  let arg1 : BitVec 32 := BitVec.ofNat 32 (i 1).val
  let c4_i32_235 : BitVec 32 := 4#32
  let v416 : BitVec 32 := Scalar.muli arg1 c4_i32_235
  let v417 : BitVec 32 := Scalar.addi v416 c0_i32_236
  let c1186_i32_237 : BitVec 32 := 1186#32
  let v418 : BitVec 32 := Scalar.minsi v417 c1186_i32_237
  let v419 : Index := Scalar.indexCast v418
  ![8, v419.toNat]
def k0_off10 (i : grid0.Coords) (c0_i32_266 : BitVec 32) : Fin 2 → Nat :=
  let c9 : Index := 9#32
  let arg1 : BitVec 32 := BitVec.ofNat 32 (i 1).val
  let c4_i32_265 : BitVec 32 := 4#32
  let v468 : BitVec 32 := Scalar.muli arg1 c4_i32_265
  let v469 : BitVec 32 := Scalar.addi v468 c0_i32_266
  let c1186_i32_267 : BitVec 32 := 1186#32
  let v470 : BitVec 32 := Scalar.minsi v469 c1186_i32_267
  let v471 : Index := Scalar.indexCast v470
  ![9, v471.toNat]
def k0_off11 (i : grid0.Coords) (c0_i32_296 : BitVec 32) : Fin 2 → Nat :=
  let c10 : Index := 10#32
  let arg1 : BitVec 32 := BitVec.ofNat 32 (i 1).val
  let c4_i32_295 : BitVec 32 := 4#32
  let v520 : BitVec 32 := Scalar.muli arg1 c4_i32_295
  let v521 : BitVec 32 := Scalar.addi v520 c0_i32_296
  let c1186_i32_297 : BitVec 32 := 1186#32
  let v522 : BitVec 32 := Scalar.minsi v521 c1186_i32_297
  let v523 : Index := Scalar.indexCast v522
  ![10, v523.toNat]
def k0_off12 (i : grid0.Coords) (c0_i32_326 : BitVec 32) : Fin 2 → Nat :=
  let c11 : Index := 11#32
  let arg1 : BitVec 32 := BitVec.ofNat 32 (i 1).val
  let c4_i32_325 : BitVec 32 := 4#32
  let v572 : BitVec 32 := Scalar.muli arg1 c4_i32_325
  let v573 : BitVec 32 := Scalar.addi v572 c0_i32_326
  let c1186_i32_327 : BitVec 32 := 1186#32
  let v574 : BitVec 32 := Scalar.minsi v573 c1186_i32_327
  let v575 : Index := Scalar.indexCast v574
  ![11, v575.toNat]
def k0_off13 (i : grid0.Coords) (c0_i32_356 : BitVec 32) : Fin 2 → Nat :=
  let c12 : Index := 12#32
  let arg1 : BitVec 32 := BitVec.ofNat 32 (i 1).val
  let c4_i32_355 : BitVec 32 := 4#32
  let v624 : BitVec 32 := Scalar.muli arg1 c4_i32_355
  let v625 : BitVec 32 := Scalar.addi v624 c0_i32_356
  let c1186_i32_357 : BitVec 32 := 1186#32
  let v626 : BitVec 32 := Scalar.minsi v625 c1186_i32_357
  let v627 : Index := Scalar.indexCast v626
  ![12, v627.toNat]
def k0_off14 (i : grid0.Coords) (c0_i32_386 : BitVec 32) : Fin 2 → Nat :=
  let c13 : Index := 13#32
  let arg1 : BitVec 32 := BitVec.ofNat 32 (i 1).val
  let c4_i32_385 : BitVec 32 := 4#32
  let v676 : BitVec 32 := Scalar.muli arg1 c4_i32_385
  let v677 : BitVec 32 := Scalar.addi v676 c0_i32_386
  let c1186_i32_387 : BitVec 32 := 1186#32
  let v678 : BitVec 32 := Scalar.minsi v677 c1186_i32_387
  let v679 : Index := Scalar.indexCast v678
  ![13, v679.toNat]
def k0_off15 (i : grid0.Coords) (c0_i32_416 : BitVec 32) : Fin 2 → Nat :=
  let c14 : Index := 14#32
  let arg1 : BitVec 32 := BitVec.ofNat 32 (i 1).val
  let c4_i32_415 : BitVec 32 := 4#32
  let v728 : BitVec 32 := Scalar.muli arg1 c4_i32_415
  let v729 : BitVec 32 := Scalar.addi v728 c0_i32_416
  let c1186_i32_417 : BitVec 32 := 1186#32
  let v730 : BitVec 32 := Scalar.minsi v729 c1186_i32_417
  let v731 : Index := Scalar.indexCast v730
  ![14, v731.toNat]
def k0_off16 (i : grid0.Coords) (c0_i32_446 : BitVec 32) : Fin 2 → Nat :=
  let c15 : Index := 15#32
  let arg1 : BitVec 32 := BitVec.ofNat 32 (i 1).val
  let c4_i32_445 : BitVec 32 := 4#32
  let v780 : BitVec 32 := Scalar.muli arg1 c4_i32_445
  let v781 : BitVec 32 := Scalar.addi v780 c0_i32_446
  let c1186_i32_447 : BitVec 32 := 1186#32
  let v782 : BitVec 32 := Scalar.minsi v781 c1186_i32_447
  let v783 : Index := Scalar.indexCast v782
  ![15, v783.toNat]
def k0_off17 (i : grid0.Coords) (c0_i32_476 : BitVec 32) : Fin 2 → Nat :=
  let c16 : Index := 16#32
  let arg1 : BitVec 32 := BitVec.ofNat 32 (i 1).val
  let c4_i32_475 : BitVec 32 := 4#32
  let v832 : BitVec 32 := Scalar.muli arg1 c4_i32_475
  let v833 : BitVec 32 := Scalar.addi v832 c0_i32_476
  let c1186_i32_477 : BitVec 32 := 1186#32
  let v834 : BitVec 32 := Scalar.minsi v833 c1186_i32_477
  let v835 : Index := Scalar.indexCast v834
  ![16, v835.toNat]
def k0_off18 (i : grid0.Coords) (c0_i32_506 : BitVec 32) : Fin 2 → Nat :=
  let c17 : Index := 17#32
  let arg1 : BitVec 32 := BitVec.ofNat 32 (i 1).val
  let c4_i32_505 : BitVec 32 := 4#32
  let v884 : BitVec 32 := Scalar.muli arg1 c4_i32_505
  let v885 : BitVec 32 := Scalar.addi v884 c0_i32_506
  let c1186_i32_507 : BitVec 32 := 1186#32
  let v886 : BitVec 32 := Scalar.minsi v885 c1186_i32_507
  let v887 : Index := Scalar.indexCast v886
  ![17, v887.toNat]
def k0_off19 (i : grid0.Coords) (c0_i32_536 : BitVec 32) : Fin 2 → Nat :=
  let c18 : Index := 18#32
  let arg1 : BitVec 32 := BitVec.ofNat 32 (i 1).val
  let c4_i32_535 : BitVec 32 := 4#32
  let v936 : BitVec 32 := Scalar.muli arg1 c4_i32_535
  let v937 : BitVec 32 := Scalar.addi v936 c0_i32_536
  let c1186_i32_537 : BitVec 32 := 1186#32
  let v938 : BitVec 32 := Scalar.minsi v937 c1186_i32_537
  let v939 : Index := Scalar.indexCast v938
  ![18, v939.toNat]
def k0_off20 (i : grid0.Coords) (c0_i32_566 : BitVec 32) : Fin 2 → Nat :=
  let c19 : Index := 19#32
  let arg1 : BitVec 32 := BitVec.ofNat 32 (i 1).val
  let c4_i32_565 : BitVec 32 := 4#32
  let v988 : BitVec 32 := Scalar.muli arg1 c4_i32_565
  let v989 : BitVec 32 := Scalar.addi v988 c0_i32_566
  let c1186_i32_567 : BitVec 32 := 1186#32
  let v990 : BitVec 32 := Scalar.minsi v989 c1186_i32_567
  let v991 : Index := Scalar.indexCast v990
  ![19, v991.toNat]
def k0_cond2 (i : grid0.Coords) : BitVec 1 :=
  let arg1 : BitVec 32 := BitVec.ofNat 32 (i 1).val
  let c296_i32 : BitVec 32 := 296#32
  let v1126 : BitVec 1 := Scalar.cmpi .eq arg1 c296_i32
  let v1127 : BitVec 32 := Scalar.extui v1126
  let c0_i32_631 : BitVec 32 := 0#32
  let v1128 : BitVec 1 := Scalar.cmpi .ne v1127 c0_i32_631
  v1128

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S20x1187 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1536x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S15360x2560 : Shape := ⟨2, ![15360, 2560]⟩
abbrev S15360x1 : Shape := ⟨2, ![15360, 1]⟩
abbrev S2560x151936 : Shape := ⟨2, ![2560, 151936]⟩
abbrev S20x1187 : Shape := ⟨2, ![20, 1187]⟩
abbrev S20x128x1187x128 : Shape := ⟨4, ![20, 128, 1187, 128]⟩
abbrev S20x1x1187x1 : Shape := ⟨4, ![20, 1, 1187, 1]⟩
abbrev S15360x151936 : Shape := ⟨2, ![15360, 151936]⟩
abbrev S_ : Shape := ⟨0, ![]⟩
abbrev S15360 : Shape := ⟨1, ![15360]⟩
abbrev S15360x1x1 : Shape := ⟨3, ![15360, 1, 1]⟩
abbrev S1 : Shape := ⟨1, ![1]⟩
abbrev S1x1x1 : Shape := ⟨3, ![1, 1, 1]⟩

abbrev nBuf : Space → Nat
  | .hbm => 50
  | .vmem => 2
  | .smem => 0
  | _ => 0

abbrev bufTy : (tb : Table) → Fin (tcTables nBuf tb) → BufTy
  | .hbm, ⟨0, _⟩ => ⟨S15360x2560, .bf16⟩
  | .hbm, ⟨1, _⟩ => ⟨S15360x1, .i32⟩
  | .hbm, ⟨2, _⟩ => ⟨S2560x151936, .fp8e4m3⟩
  | .hbm, ⟨3, _⟩ => ⟨S20x1187, .f32⟩
  | .hbm, ⟨4, _⟩ => ⟨S2560x151936, .bf16⟩
  | .hbm, ⟨5, _⟩ => ⟨S20x128x1187x128, .bf16⟩
  | .hbm, ⟨6, _⟩ => ⟨S20x1187, .bf16⟩
  | .hbm, ⟨7, _⟩ => ⟨S20x1x1187x1, .bf16⟩
  | .hbm, ⟨8, _⟩ => ⟨S20x128x1187x128, .bf16⟩
  | .hbm, ⟨9, _⟩ => ⟨S20x128x1187x128, .bf16⟩
  | .hbm, ⟨10, _⟩ => ⟨S2560x151936, .bf16⟩
  | .hbm, ⟨11, _⟩ => ⟨S15360x151936, .f32⟩
  | .hbm, ⟨12, _⟩ => ⟨S_, .f32⟩
  | .hbm, ⟨13, _⟩ => ⟨S15360, .f32⟩
  | .hbm, ⟨14, _⟩ => ⟨S15360x1, .f32⟩
  | .hbm, ⟨15, _⟩ => ⟨S15360x151936, .f32⟩
  | .hbm, ⟨16, _⟩ => ⟨S15360x151936, .f32⟩
  | .hbm, ⟨17, _⟩ => ⟨S15360x151936, .f32⟩
  | .hbm, ⟨18, _⟩ => ⟨S_, .f32⟩
  | .hbm, ⟨19, _⟩ => ⟨S15360, .f32⟩
  | .hbm, ⟨20, _⟩ => ⟨S15360, .f32⟩
  | .hbm, ⟨21, _⟩ => ⟨S15360, .f32⟩
  | .hbm, ⟨22, _⟩ => ⟨S_, .i32⟩
  | .hbm, ⟨23, _⟩ => ⟨S15360x1, .i32⟩
  | .hbm, ⟨24, _⟩ => ⟨S15360x1, .i1⟩
  | .hbm, ⟨25, _⟩ => ⟨S_, .i32⟩
  | .hbm, ⟨26, _⟩ => ⟨S15360x1, .i32⟩
  | .hbm, ⟨27, _⟩ => ⟨S15360x1, .i32⟩
  | .hbm, ⟨28, _⟩ => ⟨S15360x1, .i32⟩
  | .hbm, ⟨29, _⟩ => ⟨S15360x1x1, .i32⟩
  | .hbm, ⟨30, _⟩ => ⟨S1, .i32⟩
  | .hbm, ⟨31, _⟩ => ⟨S_, .i32⟩
  | .hbm, ⟨32, _⟩ => ⟨S15360x1x1, .i32⟩
  | .hbm, ⟨33, _⟩ => ⟨S15360x1x1, .i1⟩
  | .hbm, ⟨34, _⟩ => ⟨S1x1x1, .i32⟩
  | .hbm, ⟨35, _⟩ => ⟨S15360x1x1, .i32⟩
  | .hbm, ⟨36, _⟩ => ⟨S15360x1x1, .i1⟩
  | .hbm, ⟨37, _⟩ => ⟨S15360x1x1, .i1⟩
  | .hbm, ⟨38, _⟩ => ⟨S_, .i1⟩
  | .hbm, ⟨39, _⟩ => ⟨S15360x1, .i1⟩
  | .hbm, ⟨40, _⟩ => ⟨S15360x1, .f32⟩
  | .hbm, ⟨41, _⟩ => ⟨S_, .f32⟩
  | .hbm, ⟨42, _⟩ => ⟨S15360x1, .f32⟩
  | .hbm, ⟨43, _⟩ => ⟨S15360x1, .f32⟩
  | .hbm, ⟨44, _⟩ => ⟨S15360, .f32⟩
  | .hbm, ⟨45, _⟩ => ⟨S15360, .f32⟩
  | .hbm, ⟨46, _⟩ => ⟨S_, .f32⟩
  | .hbm, ⟨47, _⟩ => ⟨S15360, .f32⟩
  | .hbm, ⟨48, _⟩ => ⟨S15360, .f32⟩
  | .hbm, ⟨49, _⟩ => ⟨S15360x1, .f32⟩
  | .local _ .vmem, ⟨0, _⟩ => ⟨S2560x151936, .fp8e4m3⟩
  | .local _ .vmem, ⟨1, _⟩ => ⟨S2560x151936, .bf16⟩
  | _, _ => ⟨S15360x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2560x151936 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x151936 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Bits.Shared.lean ====
/- What the three runs of the head kernel's body share: its two branch conditions as arithmetic of the grid point, the
   points at which the loss block is left alone, and the names of the staging and scratch buffers. -/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 297) — by arithmetic of the point. -/
theorem hcond0_0 : ∀ t : Fin cfg0.N, cond0_0 (grid0.coords t) ↔ t.val % 297 = 0 :=
  (fun t => by
    have ht : t.val < 2970 := Nat.lt_of_lt_of_eq t.isLt N_0
    have e0 : (grid0.coords t 0).val = t.val / 297 % 10 := Pipeline.Grid.coords_val t 0 (by decide) rfl
    have e1 : (grid0.coords t 1).val = t.val / 1 % 297 := Pipeline.Grid.coords_val t 1 (by decide) rfl
    simp only [cond0_0, e0, e1]
    word_cmp
   : ∀ t : Fin grid0.N, cond0_0 (grid0.coords t) ↔ t.val % 297 = 0)

/-- The condition of the body's `scf.if` 1 (`k0_h2`), from the grid coordinates (the skeleton's scalar
    chain substituted). -/
abbrev cond0_1 (i : grid0.Coords) : Prop := k0_cond2 i = 1#1
/-- It holds at the points ≡ 296 (mod 297) — by arithmetic of the point. -/
theorem hcond0_1 : ∀ t : Fin cfg0.N, cond0_1 (grid0.coords t) ↔ t.val % 297 = 296 :=
  (fun t => by
    have ht : t.val < 2970 := Nat.lt_of_lt_of_eq t.isLt N_0
    have e0 : (grid0.coords t 0).val = t.val / 297 % 10 := Pipeline.Grid.coords_val t 0 (by decide) rfl
    have e1 : (grid0.coords t 1).val = t.val / 1 % 297 := Pipeline.Grid.coords_val t 1 (by decide) rfl
    simp only [cond0_1, k0_cond2, e0, e1]
    word_cmp
   : ∀ t : Fin grid0.N, cond0_1 (grid0.coords t) ↔ t.val % 297 = 296)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel

/-! ## The kernel body on any staging memrefs: a subtype the run finds -/

/-- One staging buffer of output window 4, through which its contents are stated (`View.read_writes_of_cover`: the
    choice does not matter). -/
abbrev VO0_4 : View sig .tc .vmem S1536x1 .f32 := (Memref.whole cc0_stg4_0 : Memref sig .tc .vmem S1536x1 .f32).view
/-- Each window's current staging memref at point `t`, spelled as the pipeline passes it (`bodyAt0`), and its wholeness. -/
abbrev ms0_0 (t : Fin cfg0.N) : Memref sig .tc .smem S20x1187 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x1 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2560x512 .bf16 := Memref.whole cc0_scratch0
abbrev scM0_1 : Memref sig .tc .vmem S1536x128 .f32 := Memref.whole cc0_scratch1
abbrev scM0_2 : Memref sig .tc .vmem S1536x128 .f32 := Memref.whole cc0_scratch2
abbrev scM0_3 : Memref sig .tc .vmem S1536x128 .f32 := Memref.whole cc0_scratch3
/-- The scratch `arg8` the kernel carries between points, as a view: what it holds is stated through it. -/
abbrev VS0_1 : View sig .tc .vmem S1536x128 .f32 := scM0_1.view
/-- The scratch `arg9` the kernel carries between points, as a view: what it holds is stated through it. -/
abbrev VS0_2 : View sig .tc .vmem S1536x128 .f32 := scM0_2.view
/-- The scratch `arg10` the kernel carries between points, as a view: what it holds is stated through it. -/
abbrev VS0_3 : View sig .tc .vmem S1536x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.Bits.RunA.lean ====
/- One of the three whole-body runs of the head kernel, at any float values. -/
module

public import proofs.«01_k».proof.Proof.Bits.Shared

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 3288000 in
/-- The body's run at the first vocabulary block of a row block: the running state is reset, then updated. On whole
    buffers, the inputs at `x0 … x3`, the loss buffer at anything and handed back untouched, the scratch at anything: what
    is left in each scratch buffer, as the pieces written, with the proof that the body runs to it. -/
noncomputable def kernelRun0_A (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : cond0_0 i) (hc1 : ¬cond0_1 i)
    (x0 : Vec F S20x1187 .f32) (x1 : Vec F S1536x2560 .bf16) (x2 : Vec F S1536x1 .i32) (x3 : Vec F S2560x512 .fp8e4m3) :
    Σ' (L4 : List (View.Piece (Elt F) S1536x1 .f32)), Σ' (LS1 : List (View.Piece (Elt F) S1536x128 .f32)), Σ' (LS2 : List (View.Piece (Elt F) S1536x128 .f32)), Σ' (LS3 : List (View.Piece (Elt F) S1536x128 .f32)), { LT0 : List (View.Piece (Elt F) S2560x512 .bf16) //
      ∀ (xi4 : Vec F S1536x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0_mtp_head i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0_mtp_head_eq_skeleton]; unfold cc0_mtp_head_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.Bits.RunB.lean ====
/- One of the three whole-body runs of the head kernel, at any float values. -/
module

public import proofs.«01_k».proof.Proof.Bits.Shared

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 3252000 in
/-- The body's run at a vocabulary block that is neither first nor last: the running state `xs1 xs2 xs3` (maximum, sum,
    target logit) is updated, the loss buffer handed back untouched. The pieces written to each scratch buffer, with the
    proof that the body runs to them. -/
noncomputable def kernelRun0_B (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : ¬cond0_1 i)
    (x0 : Vec F S20x1187 .f32) (x1 : Vec F S1536x2560 .bf16) (x2 : Vec F S1536x1 .i32) (x3 : Vec F S2560x512 .fp8e4m3) (xs1 : Vec F S1536x128 .f32) (xs2 : Vec F S1536x128 .f32) (xs3 : Vec F S1536x128 .f32) :
    Σ' (L4 : List (View.Piece (Elt F) S1536x1 .f32)), Σ' (LS1 : List (View.Piece (Elt F) S1536x128 .f32)), Σ' (LS2 : List (View.Piece (Elt F) S1536x128 .f32)), Σ' (LS3 : List (View.Piece (Elt F) S1536x128 .f32)), { LT0 : List (View.Piece (Elt F) S2560x512 .bf16) //
      ∀ (xi4 : Vec F S1536x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0_mtp_head i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0_mtp_head_eq_skeleton]; unfold cc0_mtp_head_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs1; obtain rfl := harg9.eq_unread hfs2; obtain rfl := harg10.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.Bits.RunC.lean ====
/- One of the three whole-body runs of the head kernel, at any float values. -/
module

public import proofs.«01_k».proof.Proof.Bits.Shared

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 3272000 in
/-- The body's run at the last vocabulary block of a row block: the running state is updated and the loss block stored.
    The pieces written to each buffer, with the proof that the body runs to them. -/
noncomputable def kernelRun0_C (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : cond0_1 i)
    (x0 : Vec F S20x1187 .f32) (x1 : Vec F S1536x2560 .bf16) (x2 : Vec F S1536x1 .i32) (x3 : Vec F S2560x512 .fp8e4m3) (xs1 : Vec F S1536x128 .f32) (xs2 : Vec F S1536x128 .f32) (xs3 : Vec F S1536x128 .f32) :
    Σ' (L4 : List (View.Piece (Elt F) S1536x1 .f32)), Σ' (LS1 : List (View.Piece (Elt F) S1536x128 .f32)), Σ' (LS2 : List (View.Piece (Elt F) S1536x128 .f32)), Σ' (LS3 : List (View.Piece (Elt F) S1536x128 .f32)), { LT0 : List (View.Piece (Elt F) S2560x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0_mtp_head i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_mtp_head_eq_skeleton]; unfold cc0_mtp_head_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs1; obtain rfl := harg9.eq_unread hfs2; obtain rfl := harg10.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Hand

end
-- ==== Proof.Bits.Frame.lean ====
/- The frame of the head kernel at any float values: it runs from any memory, ends with its arguments as they were and
   every counter at zero. Nothing is said of what the loss array holds; the scratch is taken, at each point, at anything. -/
module

public import proofs.«01_k».proof.Proof.Bits.RunA
public import proofs.«01_k».proof.Proof.Bits.RunB
public import proofs.«01_k».proof.Proof.Bits.RunC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body at any point, from any contents of its buffers: the four inputs are handed back as they were, the loss
    buffer and the scratch at something. By cases on the point: first, last, or other vocabulary block. -/
theorem body_any (c : Dev nD) (t : Fin cfg0.N) (x0 : Vec F S20x1187 .f32) (x1 : Vec F S1536x2560 .bf16)
    (x2 : Vec F S1536x1 .i32) (x3 : Vec F S2560x512 .fp8e4m3) (K : PUnit → sProp 𝕄) :
    iprop(Pipeline.ΦA spec0 c
        ∗ owns (c : Thread nD τ) (ms0_0 t) fullShare x0 ∗ owns (c : Thread nD τ) (ms0_1 t) fullShare x1
        ∗ owns (c : Thread nD τ) (ms0_2 t) fullShare x2 ∗ owns (c : Thread nD τ) (ms0_3 t) fullShare x3
        ∗ (∃ d, owns (c : Thread nD τ) (ms0_4 t) fullShare d)
        ∗ (iprop(Pipeline.ΦA spec0 c
            ∗ owns (c : Thread nD τ) (ms0_0 t) fullShare x0 ∗ owns (c : Thread nD τ) (ms0_1 t) fullShare x1
            ∗ owns (c : Thread nD τ) (ms0_2 t) fullShare x2 ∗ owns (c : Thread nD τ) (ms0_3 t) fullShare x3
            ∗ (∃ d, owns (c : Thread nD τ) (ms0_4 t) fullShare d)) -∗ K ⟨⟩))
      ⊢ wp frame (wpE (defs₀ (F := F)) Variants.none c none) Set.univ (bodyAt0 t) K := by
  unfold bodyAt0
  rw [PhiA0_eq]
  by_cases h0 : t.val % 297 = 0
  · have h1 : ¬ t.val % 297 = 296 := by omega
    iintro ⟨⟨⟨HS0, HS1, HS2, HS3⟩, Hg⟩, H0, H1, H2, H3, ⟨%d4, H4⟩, Hk⟩
    iapply ((kernelRun0_A c (grid0.coords t) _ _ _ _ _ _ _ _ _ _ _ _ _ _ _ _ _ _ ((hcond0_0 t).mpr h0) (fun h => h1 ((hcond0_1 t).mp h)) x0 x1 x2 x3).2.2.2.2.2 d4 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%fT0, HS0⟩, ⟨%es1, HS1⟩, ⟨%es2, HS2⟩, ⟨%es3, HS3⟩⟩
    iapply Hk
    isplitl [HS0 HS1 HS2 HS3 Hg]
    · isplitl [HS0 HS1 HS2 HS3]
      · isplitl [HS0]; · iexists _; unfold owns; iexists _; isplitr; swap; iexact HS0; ipureintro; rfl
        isplitl [HS1]; · iexists _; unfold owns; iexists _; isplitr; swap; iexact HS1; ipureintro; rfl
        isplitl [HS2]; · iexists _; unfold owns; iexists _; isplitr; swap; iexact HS2; ipureintro; rfl
        iexists _; unfold owns; iexists _; isplitr; swap; iexact HS3; ipureintro; rfl
      iexact Hg
    isplitl [H0]; · iexact H0
    isplitl [H1]; · iexact H1
    isplitl [H2]; · iexact H2
    isplitl [H3]; · iexact H3
    iexists _; iexact H4
  by_cases h1 : t.val % 297 = 296
  · iintro ⟨⟨⟨HS0, ⟨%d1, HS1⟩, ⟨%d2, HS2⟩, ⟨%d3, HS3⟩⟩, Hg⟩, H0, H1, H2, H3, H4, Hk⟩
    iapply ((kernelRun0_C c (grid0.coords t) _ _ _ _ _ _ _ _ _ _ _ _ _ _ _ _ _ _ (fun h => h0 ((hcond0_0 t).mp h)) ((hcond0_1 t).mpr h1) x0 x1 x2 x3 d1 d2 d3).2.2.2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, ⟨%e4, H4⟩, ⟨%fT0, HS0⟩, ⟨%es1, HS1⟩, ⟨%es2, HS2⟩, ⟨%es3, HS3⟩⟩
    iapply Hk
    isplitl [HS0 HS1 HS2 HS3 Hg]
    · isplitl [HS0 HS1 HS2 HS3]
      · isplitl [HS0]; · iexists _; unfold owns; iexists _; isplitr; swap; iexact HS0; ipureintro; rfl
        isplitl [HS1]; · iexists _; unfold owns; iexists _; isplitr; swap; iexact HS1; ipureintro; rfl
        isplitl [HS2]; · iexists _; unfold owns; iexists _; isplitr; swap; iexact HS2; ipureintro; rfl
        iexists _; unfold owns; iexists _; isplitr; swap; iexact HS3; ipureintro; rfl
      iexact Hg
    isplitl [H0]; · iexact H0
    isplitl [H1]; · iexact H1
    isplitl [H2]; · iexact H2
    isplitl [H3]; · iexact H3
    iexists _; unfold owns; iexists _; isplitr; swap; iexact H4; ipureintro; rfl
  · iintro ⟨⟨⟨HS0, ⟨%d1, HS1⟩, ⟨%d2, HS2⟩, ⟨%d3, HS3⟩⟩, Hg⟩, H0, H1, H2, H3, ⟨%d4, H4⟩, Hk⟩
    iapply ((kernelRun0_B c (grid0.coords t) _ _ _ _ _ _ _ _ _ _ _ _ _ _ _ _ _ _ (fun h => h0 ((hcond0_0 t).mp h)) (fun h => h1 ((hcond0_1 t).mp h)) x0 x1 x2 x3 d1 d2 d3).2.2.2.2.2 d4 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%fT0, HS0⟩, ⟨%es1, HS1⟩, ⟨%es2, HS2⟩, ⟨%es3, HS3⟩⟩
    iapply Hk
    isplitl [HS0 HS1 HS2 HS3 Hg]
    · isplitl [HS0 HS1 HS2 HS3]
      · isplitl [HS0]; · iexists _; unfold owns; iexists _; isplitr; swap; iexact HS0; ipureintro; rfl
        isplitl [HS1]; · iexists _; unfold owns; iexists _; isplitr; swap; iexact HS1; ipureintro; rfl
        isplitl [HS2]; · iexists _; unfold owns; iexists _; isplitr; swap; iexact HS2; ipureintro; rfl
        iexists _; unfold owns; iexists _; isplitr; swap; iexact HS3; ipureintro; rfl
      iexact Hg
    isplitl [H0]; · iexact H0
    isplitl [H1]; · iexact H1
    isplitl [H2]; · iexact H2
    isplitl [H3]; · iexact H3
    iexists _; iexact H4

variable (m : (ℓ : Loc nD τ sig) → Buf (Elt F) ℓ) (ρ : Dev nD → PrngReg)

/-- The window of which nothing is said: the loss. -/
def forgets0 : Fin 5 → Bool := fun w => w.val == 4

/-- The proof data: the arrays as launched; each input buffer at its block after the body (the codes' last block, cut at the
    array's end, filled out with a word nothing reads); the loss buffer unnamed; the scratch at anything throughout. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Classical.arbitrary _) (iblk m c 3 t)
    | ⟨4, h⟩ => Pipeline.Dat.unnamed (cfg := cfg0) ⟨4, h⟩ t
  Φ _ := Pipeline.ΦA spec0 c
  q _ := fullShare
  owed _ := 0

/-- The proof data's arrays are the launched ones. -/
theorem fA_eq (c : Dev nD) (w : Fin cfg0.W) : (fdats m 0 c).A w = V m c (Pipeline.arrRef spec0 w) := by
  dsimp only [fdats]

/-- What the body leaves in each input buffer. -/
theorem fafter0 (c : Dev nD) (t : Fin cfg0.N) : (fdats m 0 c).after 0 t = iblk m c 0 t := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t
    = win0_3.fill (grid0.coords t) (fun _ => Classical.arbitrary _) (iblk m c 3 t) := by dsimp only [fdats]

/-- Each whole input's buffer holds its block at every point. -/
theorem fbefore0 (c : Dev nD) (t : Fin cfg0.N) (d) : (fdats m 0 c).before 0 t d = iblk m c 0 t :=
  before0_0_of m (fdats m 0 c) (fA_eq m c 0) (fafter0 m c) t d
theorem fbefore1 (c : Dev nD) (t : Fin cfg0.N) (d) : (fdats m 0 c).before 1 t d = iblk m c 1 t :=
  before0_1_of m (fdats m 0 c) (fA_eq m c 1) (fafter1 m c) t d
theorem fbefore2 (c : Dev nD) (t : Fin cfg0.N) (d) : (fdats m 0 c).before 2 t d = iblk m c 2 t :=
  before0_2_of m (fdats m 0 c) (fA_eq m c 2) (fafter2 m c) t d
/-- The codes' buffer, fetched at every point, holds its block where the block lies in the array. -/
theorem fbefore3 (c : Dev nD) (t : Fin cfg0.N) (d) :
    (fdats m 0 c).before 3 t d = win0_3.fill (grid0.coords t) d (iblk m c 3 t) := by
  unfold Dat.before; rw [if_pos (fetch0_3 t)]; rfl

/-- The body table's row at a point is the body as the pipeline passes it its buffers. -/
theorem fdefs₀_row (t : Fin cfg0.N) :
    defs₀ (F := F) .tc cfg0.body (cfg0.bodyArgs t (cfg0.slots t)) = bodyAt0 t := by
  unfold defs₀; rw [Defs.onTc_tc]

/-- What the body is called with at a point, buffer by buffer, -/
def fPre (c : Dev nD) (t : Fin cfg0.N) : sProp 𝕄 :=
  iprop((fdats m 0 c).Φ t.castSucc ∗ (fdats m 0 c).owesAt () t.castSucc
    ∗ (∃ d, owns (c : Thread nD τ) (ms0_0 t) fullShare ((fdats m 0 c).before 0 t d))
    ∗ (∃ d, owns (c : Thread nD τ) (ms0_1 t) fullShare ((fdats m 0 c).before 1 t d))
    ∗ (∃ d, owns (c : Thread nD τ) (ms0_2 t) fullShare ((fdats m 0 c).before 2 t d))
    ∗ (∃ d, owns (c : Thread nD τ) (ms0_3 t) fullShare ((fdats m 0 c).before 3 t d))
    ∗ (∃ d, owns (c : Thread nD τ) (ms0_4 t) fullShare d))

/-- and what it returns: of the codes' buffer only the part inside the array is stated. -/
def fPost (c : Dev nD) (t : Fin cfg0.N) : sProp 𝕄 :=
  iprop((fdats m 0 c).Φ t.succ ∗ (fdats m 0 c).owesAt () t.succ
    ∗ owns (c : Thread nD τ) (ms0_0 t) fullShare ((fdats m 0 c).after 0 t)
    ∗ owns (c : Thread nD τ) (ms0_1 t) fullShare ((fdats m 0 c).after 1 t)
    ∗ owns (c : Thread nD τ) (ms0_2 t) fullShare ((fdats m 0 c).after 2 t)
    ∗ (∃ d, owns (c : Thread nD τ) (ms0_3 t) fullShare (win0_3.fill (grid0.coords t) d (win0_3.cut (grid0.coords t) ((fdats m 0 c).after 3 t))))
    ∗ (∃ d, owns (c : Thread nD τ) (ms0_4 t) fullShare d))

/-- The body's triple at a point. -/
theorem fsound (c : Dev nD) (t : Fin cfg0.N) :
    fPre m c t ⊢ wp frame (wpE (defs₀ (F := F)) Variants.none c none) Set.univ (bodyAt0 t) (fun _ => fPost m c t) := by
  unfold fPre fPost
  rw [fafter0, fafter1, fafter2, fafter3, Window.cut_fill]
  rw [show (fdats m 0 c).owesAt () t.succ = (fdats m 0 c).owesAt () t.castSucc from rfl]
  rw [show (fdats m 0 c).Φ t.succ = Pipeline.ΦA spec0 c from rfl, show (fdats m 0 c).Φ t.castSucc = Pipeline.ΦA spec0 c from rfl]
  simp only [fbefore0, fbefore1, fbefore2, fbefore3]
  iintro ⟨HP, Ho, ⟨%d0, H0⟩, ⟨%d1, H1⟩, ⟨%d2, H2⟩, ⟨%d3, H3⟩, H4⟩
  iapply (body_any c t (iblk m c 0 t) (iblk m c 1 t) (iblk m c 2 t) (win0_3.fill (grid0.coords t) d3 (iblk m c 3 t)) _)
  isplitl [HP]; · iexact HP
  isplitl [H0]; · iexact H0
  isplitl [H1]; · iexact H1
  isplitl [H2]; · iexact H2
  isplitl [H3]; · iexact H3
  isplitl [H4]; · iexact H4
  iintro ⟨HP, H0, H1, H2, H3, H4⟩
  isplitl [HP]; · iexact HP
  isplitl [Ho]; · iexact Ho
  isplitl [H0]; · iexact H0
  isplitl [H1]; · iexact H1
  isplitl [H2]; · iexact H2
  isplitl [H3]; · iexists d3; iexact H3
  iexact H4

/-- The body obligation at every point. -/
theorem fobligation (c : Dev nD) : BodyObligationLoose (fdats (F := F) m 0 c) (defs₀ (F := F)) Variants.none () Set.univ forgets0 := fun t => by
  rw [bigSep_W0, bigSep_W0, fdefs₀_row]
  exact triple_restated (fsound m c t) rfl .rfl fun _ => .rfl

set_option backward.isDefEq.respectTransparency.types false in
/-- The launch: every execution ends, the inputs' arrays as launched, every counter at zero. -/
theorem frun : θ_run defs (onTc (τ := τ) (main (F := F))) (s₀ m ρ) (fun r => (Pipeline.RDat.FramePost (cfgs 0) (fun c => (fdats m 0 c).toRForget forgets0) (V m)) r ∧ r.2.sem = fun _ => 0) :=
  Pipeline.θ_run_frame_track_forget (Q' := _) cfgs (fdats m) (0 : Fin 1) launch0 defs₀ Variants.none forgets0 m ρ main
    (hbody := fun c => fobligation m c) (hshare := fun c => (fdats m 0 c).share_full fun _ => rfl)
    (howed := fun _ _ => rfl) (V := V m) (hmain := hmain m Variants.none) (hA := fA_eq m) (hin := fun _ => .rfl) (hout := fun _ => .rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c =>
      ⟨(Pipeline.RDat.FramePost.arr_in hr.1 c 1 rfl).trans ((fA_eq m c 1).trans (V_main_arg0 m c)),
      (Pipeline.RDat.FramePost.arr_in hr.1 c 2 rfl).trans ((fA_eq m c 2).trans (V_main_arg1 m c)),
      (Pipeline.RDat.FramePost.arr_in hr.1 c 3 rfl).trans ((fA_eq m c 3).trans (V_main_arg2 m c)),
      (Pipeline.RDat.FramePost.arr_in hr.1 c 0 rfl).trans ((fA_eq m c 0).trans (V_main_arg3 m c))⟩, hr.2⟩) (frun m ρ)

end Cert.Kernel.Hand

end
-- ==== Proof.Exact.Shared.lean ====
/- What the three runs of the head kernel's body share: its two branch conditions as arithmetic of the grid point, the
   points at which the loss block is left alone, and the names of the staging and scratch buffers. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 297) — by arithmetic of the point. -/
theorem hcond0_0 : ∀ t : Fin cfg0.N, cond0_0 (grid0.coords t) ↔ t.val % 297 = 0 :=
  (fun t => by
    have ht : t.val < 2970 := Nat.lt_of_lt_of_eq t.isLt N_0
    have e0 : (grid0.coords t 0).val = t.val / 297 % 10 := Pipeline.Grid.coords_val t 0 (by decide) rfl
    have e1 : (grid0.coords t 1).val = t.val / 1 % 297 := Pipeline.Grid.coords_val t 1 (by decide) rfl
    simp only [cond0_0, e0, e1]
    word_cmp
   : ∀ t : Fin grid0.N, cond0_0 (grid0.coords t) ↔ t.val % 297 = 0)

/-- The condition of the body's `scf.if` 1 (`k0_h2`), from the grid coordinates (the skeleton's scalar
    chain substituted). -/
abbrev cond0_1 (i : grid0.Coords) : Prop := k0_cond2 i = 1#1
/-- It holds at the points ≡ 296 (mod 297) — by arithmetic of the point. -/
theorem hcond0_1 : ∀ t : Fin cfg0.N, cond0_1 (grid0.coords t) ↔ t.val % 297 = 296 :=
  (fun t => by
    have ht : t.val < 2970 := Nat.lt_of_lt_of_eq t.isLt N_0
    have e0 : (grid0.coords t 0).val = t.val / 297 % 10 := Pipeline.Grid.coords_val t 0 (by decide) rfl
    have e1 : (grid0.coords t 1).val = t.val / 1 % 297 := Pipeline.Grid.coords_val t 1 (by decide) rfl
    simp only [cond0_1, k0_cond2, e0, e1]
    word_cmp
   : ∀ t : Fin grid0.N, cond0_1 (grid0.coords t) ↔ t.val % 297 = 296)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel

/-! ## The kernel body on any staging memrefs: a subtype the run finds -/

/-- One staging buffer of output window 4, through which its contents are stated (`View.read_writes_of_cover`: the
    choice does not matter). -/
abbrev VO0_4 : View sig .tc .vmem S1536x1 .f32 := (Memref.whole cc0_stg4_0 : Memref sig .tc .vmem S1536x1 .f32).view
/-- Each window's current staging memref at point `t`, spelled as the pipeline passes it (`bodyAt0`), and its wholeness. -/
abbrev ms0_0 (t : Fin cfg0.N) : Memref sig .tc .smem S20x1187 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x1 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2560x512 .bf16 := Memref.whole cc0_scratch0
abbrev scM0_1 : Memref sig .tc .vmem S1536x128 .f32 := Memref.whole cc0_scratch1
abbrev scM0_2 : Memref sig .tc .vmem S1536x128 .f32 := Memref.whole cc0_scratch2
abbrev scM0_3 : Memref sig .tc .vmem S1536x128 .f32 := Memref.whole cc0_scratch3
/-- The scratch `arg8` the kernel carries between points, as a view: what it holds is stated through it. -/
abbrev VS0_1 : View sig .tc .vmem S1536x128 .f32 := scM0_1.view
/-- The scratch `arg9` the kernel carries between points, as a view: what it holds is stated through it. -/
abbrev VS0_2 : View sig .tc .vmem S1536x128 .f32 := scM0_2.view
/-- The scratch `arg10` the kernel carries between points, as a view: what it holds is stated through it. -/
abbrev VS0_3 : View sig .tc .vmem S1536x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Exact.RunA.lean ====
/- One of the three whole-body runs of the head kernel, at any float values. -/
module

public import proofs.«01_k».proof.Proof.Exact.Shared

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 3288000 in
/-- The body's run at the first vocabulary block of a row block: the running state is reset, then updated. On whole
    buffers, the inputs at `x0 … x3`, the loss buffer at anything and handed back untouched, the scratch at anything: what
    is left in each scratch buffer, as the pieces written, with the proof that the body runs to it. -/
noncomputable def kernelRun0_A (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : cond0_0 i) (hc1 : ¬cond0_1 i)
    (x0 : Vec F S20x1187 .f32) (x1 : Vec F S1536x2560 .bf16) (x2 : Vec F S1536x1 .i32) (x3 : Vec F S2560x512 .fp8e4m3) :
    Σ' (L4 : List (View.Piece (Elt F) S1536x1 .f32)), Σ' (LS1 : List (View.Piece (Elt F) S1536x128 .f32)), Σ' (LS2 : List (View.Piece (Elt F) S1536x128 .f32)), Σ' (LS3 : List (View.Piece (Elt F) S1536x128 .f32)), { LT0 : List (View.Piece (Elt F) S2560x512 .bf16) //
      ∀ (xi4 : Vec F S1536x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0_mtp_head i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0_mtp_head_eq_skeleton]; unfold cc0_mtp_head_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.Exact.RunB.lean ====
/- One of the three whole-body runs of the head kernel, at any float values. -/
module

public import proofs.«01_k».proof.Proof.Exact.Shared

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 3252000 in
/-- The body's run at a vocabulary block that is neither first nor last: the running state `xs1 xs2 xs3` (maximum, sum,
    target logit) is updated, the loss buffer handed back untouched. The pieces written to each scratch buffer, with the
    proof that the body runs to them. -/
noncomputable def kernelRun0_B (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : ¬cond0_1 i)
    (x0 : Vec F S20x1187 .f32) (x1 : Vec F S1536x2560 .bf16) (x2 : Vec F S1536x1 .i32) (x3 : Vec F S2560x512 .fp8e4m3) (xs1 : Vec F S1536x128 .f32) (xs2 : Vec F S1536x128 .f32) (xs3 : Vec F S1536x128 .f32) :
    Σ' (L4 : List (View.Piece (Elt F) S1536x1 .f32)), Σ' (LS1 : List (View.Piece (Elt F) S1536x128 .f32)), Σ' (LS2 : List (View.Piece (Elt F) S1536x128 .f32)), Σ' (LS3 : List (View.Piece (Elt F) S1536x128 .f32)), { LT0 : List (View.Piece (Elt F) S2560x512 .bf16) //
      ∀ (xi4 : Vec F S1536x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0_mtp_head i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0_mtp_head_eq_skeleton]; unfold cc0_mtp_head_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs1; obtain rfl := harg9.eq_unread hfs2; obtain rfl := harg10.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.Exact.RunC.lean ====
/- One of the three whole-body runs of the head kernel, at any float values. -/
module

public import proofs.«01_k».proof.Proof.Exact.Shared

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 3272000 in
/-- The body's run at the last vocabulary block of a row block: the running state is updated and the loss block stored.
    The pieces written to each buffer, with the proof that the body runs to them. -/
noncomputable def kernelRun0_C (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : cond0_1 i)
    (x0 : Vec F S20x1187 .f32) (x1 : Vec F S1536x2560 .bf16) (x2 : Vec F S1536x1 .i32) (x3 : Vec F S2560x512 .fp8e4m3) (xs1 : Vec F S1536x128 .f32) (xs2 : Vec F S1536x128 .f32) (xs3 : Vec F S1536x128 .f32) :
    Σ' (L4 : List (View.Piece (Elt F) S1536x1 .f32)), Σ' (LS1 : List (View.Piece (Elt F) S1536x128 .f32)), Σ' (LS2 : List (View.Piece (Elt F) S1536x128 .f32)), Σ' (LS3 : List (View.Piece (Elt F) S1536x128 .f32)), { LT0 : List (View.Piece (Elt F) S2560x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0_mtp_head i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_mtp_head_eq_skeleton]; unfold cc0_mtp_head_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs1; obtain rfl := harg9.eq_unread hfs2; obtain rfl := harg10.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.Exact.Frame.lean ====
/- The frame of the head kernel at any float values: it runs from any memory, ends with its arguments as they were and
   every counter at zero. Nothing is said of what the loss array holds; the scratch is taken, at each point, at anything. -/
module

public import proofs.«01_k».proof.Proof.Exact.RunA
public import proofs.«01_k».proof.Proof.Exact.RunB
public import proofs.«01_k».proof.Proof.Exact.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body at any point, from any contents of its buffers: the four inputs are handed back as they were, the loss
    buffer and the scratch at something. By cases on the point: first, last, or other vocabulary block. -/
theorem body_any (c : Dev nD) (t : Fin cfg0.N) (x0 : Vec F S20x1187 .f32) (x1 : Vec F S1536x2560 .bf16)
    (x2 : Vec F S1536x1 .i32) (x3 : Vec F S2560x512 .fp8e4m3) (K : PUnit → sProp 𝕄) :
    iprop(Pipeline.ΦA spec0 c
        ∗ owns (c : Thread nD τ) (ms0_0 t) fullShare x0 ∗ owns (c : Thread nD τ) (ms0_1 t) fullShare x1
        ∗ owns (c : Thread nD τ) (ms0_2 t) fullShare x2 ∗ owns (c : Thread nD τ) (ms0_3 t) fullShare x3
        ∗ (∃ d, owns (c : Thread nD τ) (ms0_4 t) fullShare d)
        ∗ (iprop(Pipeline.ΦA spec0 c
            ∗ owns (c : Thread nD τ) (ms0_0 t) fullShare x0 ∗ owns (c : Thread nD τ) (ms0_1 t) fullShare x1
            ∗ owns (c : Thread nD τ) (ms0_2 t) fullShare x2 ∗ owns (c : Thread nD τ) (ms0_3 t) fullShare x3
            ∗ (∃ d, owns (c : Thread nD τ) (ms0_4 t) fullShare d)) -∗ K ⟨⟩))
      ⊢ wp frame (wpE (defs₀ (F := F)) Variants.none c none) Set.univ (bodyAt0 t) K := by
  unfold bodyAt0
  rw [PhiA0_eq]
  by_cases h0 : t.val % 297 = 0
  · have h1 : ¬ t.val % 297 = 296 := by omega
    iintro ⟨⟨⟨HS0, HS1, HS2, HS3⟩, Hg⟩, H0, H1, H2, H3, ⟨%d4, H4⟩, Hk⟩
    iapply ((kernelRun0_A c (grid0.coords t) _ _ _ _ _ _ _ _ _ _ _ _ _ _ _ _ _ _ ((hcond0_0 t).mpr h0) (fun h => h1 ((hcond0_1 t).mp h)) x0 x1 x2 x3).2.2.2.2.2 d4 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%fT0, HS0⟩, ⟨%es1, HS1⟩, ⟨%es2, HS2⟩, ⟨%es3, HS3⟩⟩
    iapply Hk
    isplitl [HS0 HS1 HS2 HS3 Hg]
    · isplitl [HS0 HS1 HS2 HS3]
      · isplitl [HS0]; · iexists _; unfold owns; iexists _; isplitr; swap; iexact HS0; ipureintro; rfl
        isplitl [HS1]; · iexists _; unfold owns; iexists _; isplitr; swap; iexact HS1; ipureintro; rfl
        isplitl [HS2]; · iexists _; unfold owns; iexists _; isplitr; swap; iexact HS2; ipureintro; rfl
        iexists _; unfold owns; iexists _; isplitr; swap; iexact HS3; ipureintro; rfl
      iexact Hg
    isplitl [H0]; · iexact H0
    isplitl [H1]; · iexact H1
    isplitl [H2]; · iexact H2
    isplitl [H3]; · iexact H3
    iexists _; iexact H4
  by_cases h1 : t.val % 297 = 296
  · iintro ⟨⟨⟨HS0, ⟨%d1, HS1⟩, ⟨%d2, HS2⟩, ⟨%d3, HS3⟩⟩, Hg⟩, H0, H1, H2, H3, H4, Hk⟩
    iapply ((kernelRun0_C c (grid0.coords t) _ _ _ _ _ _ _ _ _ _ _ _ _ _ _ _ _ _ (fun h => h0 ((hcond0_0 t).mp h)) ((hcond0_1 t).mpr h1) x0 x1 x2 x3 d1 d2 d3).2.2.2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, ⟨%e4, H4⟩, ⟨%fT0, HS0⟩, ⟨%es1, HS1⟩, ⟨%es2, HS2⟩, ⟨%es3, HS3⟩⟩
    iapply Hk
    isplitl [HS0 HS1 HS2 HS3 Hg]
    · isplitl [HS0 HS1 HS2 HS3]
      · isplitl [HS0]; · iexists _; unfold owns; iexists _; isplitr; swap; iexact HS0; ipureintro; rfl
        isplitl [HS1]; · iexists _; unfold owns; iexists _; isplitr; swap; iexact HS1; ipureintro; rfl
        isplitl [HS2]; · iexists _; unfold owns; iexists _; isplitr; swap; iexact HS2; ipureintro; rfl
        iexists _; unfold owns; iexists _; isplitr; swap; iexact HS3; ipureintro; rfl
      iexact Hg
    isplitl [H0]; · iexact H0
    isplitl [H1]; · iexact H1
    isplitl [H2]; · iexact H2
    isplitl [H3]; · iexact H3
    iexists _; unfold owns; iexists _; isplitr; swap; iexact H4; ipureintro; rfl
  · iintro ⟨⟨⟨HS0, ⟨%d1, HS1⟩, ⟨%d2, HS2⟩, ⟨%d3, HS3⟩⟩, Hg⟩, H0, H1, H2, H3, ⟨%d4, H4⟩, Hk⟩
    iapply ((kernelRun0_B c (grid0.coords t) _ _ _ _ _ _ _ _ _ _ _ _ _ _ _ _ _ _ (fun h => h0 ((hcond0_0 t).mp h)) (fun h => h1 ((hcond0_1 t).mp h)) x0 x1 x2 x3 d1 d2 d3).2.2.2.2.2 d4 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%fT0, HS0⟩, ⟨%es1, HS1⟩, ⟨%es2, HS2⟩, ⟨%es3, HS3⟩⟩
    iapply Hk
    isplitl [HS0 HS1 HS2 HS3 Hg]
    · isplitl [HS0 HS1 HS2 HS3]
      · isplitl [HS0]; · iexists _; unfold owns; iexists _; isplitr; swap; iexact HS0; ipureintro; rfl
        isplitl [HS1]; · iexists _; unfold owns; iexists _; isplitr; swap; iexact HS1; ipureintro; rfl
        isplitl [HS2]; · iexists _; unfold owns; iexists _; isplitr; swap; iexact HS2; ipureintro; rfl
        iexists _; unfold owns; iexists _; isplitr; swap; iexact HS3; ipureintro; rfl
      iexact Hg
    isplitl [H0]; · iexact H0
    isplitl [H1]; · iexact H1
    isplitl [H2]; · iexact H2
    isplitl [H3]; · iexact H3
    iexists _; iexact H4

variable (m : (ℓ : Loc nD τ sig) → Buf (Elt F) ℓ) (ρ : Dev nD → PrngReg)

/-- The window of which nothing is said: the loss. -/
def forgets0 : Fin 5 → Bool := fun w => w.val == 4

/-- The proof data: the arrays as launched; each input buffer at its block after the body (the codes' last block, cut at the
    array's end, filled out with a word nothing reads); the loss buffer unnamed; the scratch at anything throughout. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Classical.arbitrary _) (iblk m c 3 t)
    | ⟨4, h⟩ => Pipeline.Dat.unnamed (cfg := cfg0) ⟨4, h⟩ t
  Φ _ := Pipeline.ΦA spec0 c
  q _ := fullShare
  owed _ := 0

/-- The proof data's arrays are the launched ones. -/
theorem fA_eq (c : Dev nD) (w : Fin cfg0.W) : (fdats m 0 c).A w = V m c (Pipeline.arrRef spec0 w) := by
  dsimp only [fdats]

/-- What the body leaves in each input buffer. -/
theorem fafter0 (c : Dev nD) (t : Fin cfg0.N) : (fdats m 0 c).after 0 t = iblk m c 0 t := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t
    = win0_3.fill (grid0.coords t) (fun _ => Classical.arbitrary _) (iblk m c 3 t) := by dsimp only [fdats]

/-- Each whole input's buffer holds its block at every point. -/
theorem fbefore0 (c : Dev nD) (t : Fin cfg0.N) (d) : (fdats m 0 c).before 0 t d = iblk m c 0 t :=
  before0_0_of m (fdats m 0 c) (fA_eq m c 0) (fafter0 m c) t d
theorem fbefore1 (c : Dev nD) (t : Fin cfg0.N) (d) : (fdats m 0 c).before 1 t d = iblk m c 1 t :=
  before0_1_of m (fdats m 0 c) (fA_eq m c 1) (fafter1 m c) t d
theorem fbefore2 (c : Dev nD) (t : Fin cfg0.N) (d) : (fdats m 0 c).before 2 t d = iblk m c 2 t :=
  before0_2_of m (fdats m 0 c) (fA_eq m c 2) (fafter2 m c) t d
/-- The codes' buffer, fetched at every point, holds its block where the block lies in the array. -/
theorem fbefore3 (c : Dev nD) (t : Fin cfg0.N) (d) :
    (fdats m 0 c).before 3 t d = win0_3.fill (grid0.coords t) d (iblk m c 3 t) := by
  unfold Dat.before; rw [if_pos (fetch0_3 t)]; rfl

/-- The body table's row at a point is the body as the pipeline passes it its buffers. -/
theorem fdefs₀_row (t : Fin cfg0.N) :
    defs₀ (F := F) .tc cfg0.body (cfg0.bodyArgs t (cfg0.slots t)) = bodyAt0 t := by
  unfold defs₀; rw [Defs.onTc_tc]

/-- What the body is called with at a point, buffer by buffer, -/
def fPre (c : Dev nD) (t : Fin cfg0.N) : sProp 𝕄 :=
  iprop((fdats m 0 c).Φ t.castSucc ∗ (fdats m 0 c).owesAt () t.castSucc
    ∗ (∃ d, owns (c : Thread nD τ) (ms0_0 t) fullShare ((fdats m 0 c).before 0 t d))
    ∗ (∃ d, owns (c : Thread nD τ) (ms0_1 t) fullShare ((fdats m 0 c).before 1 t d))
    ∗ (∃ d, owns (c : Thread nD τ) (ms0_2 t) fullShare ((fdats m 0 c).before 2 t d))
    ∗ (∃ d, owns (c : Thread nD τ) (ms0_3 t) fullShare ((fdats m 0 c).before 3 t d))
    ∗ (∃ d, owns (c : Thread nD τ) (ms0_4 t) fullShare d))

/-- and what it returns: of the codes' buffer only the part inside the array is stated. -/
def fPost (c : Dev nD) (t : Fin cfg0.N) : sProp 𝕄 :=
  iprop((fdats m 0 c).Φ t.succ ∗ (fdats m 0 c).owesAt () t.succ
    ∗ owns (c : Thread nD τ) (ms0_0 t) fullShare ((fdats m 0 c).after 0 t)
    ∗ owns (c : Thread nD τ) (ms0_1 t) fullShare ((fdats m 0 c).after 1 t)
    ∗ owns (c : Thread nD τ) (ms0_2 t) fullShare ((fdats m 0 c).after 2 t)
    ∗ (∃ d, owns (c : Thread nD τ) (ms0_3 t) fullShare (win0_3.fill (grid0.coords t) d (win0_3.cut (grid0.coords t) ((fdats m 0 c).after 3 t))))
    ∗ (∃ d, owns (c : Thread nD τ) (ms0_4 t) fullShare d))

/-- The body's triple at a point. -/
theorem fsound (c : Dev nD) (t : Fin cfg0.N) :
    fPre m c t ⊢ wp frame (wpE (defs₀ (F := F)) Variants.none c none) Set.univ (bodyAt0 t) (fun _ => fPost m c t) := by
  unfold fPre fPost
  rw [fafter0, fafter1, fafter2, fafter3, Window.cut_fill]
  rw [show (fdats m 0 c).owesAt () t.succ = (fdats m 0 c).owesAt () t.castSucc from rfl]
  rw [show (fdats m 0 c).Φ t.succ = Pipeline.ΦA spec0 c from rfl, show (fdats m 0 c).Φ t.castSucc = Pipeline.ΦA spec0 c from rfl]
  simp only [fbefore0, fbefore1, fbefore2, fbefore3]
  iintro ⟨HP, Ho, ⟨%d0, H0⟩, ⟨%d1, H1⟩, ⟨%d2, H2⟩, ⟨%d3, H3⟩, H4⟩
  iapply (body_any c t (iblk m c 0 t) (iblk m c 1 t) (iblk m c 2 t) (win0_3.fill (grid0.coords t) d3 (iblk m c 3 t)) _)
  isplitl [HP]; · iexact HP
  isplitl [H0]; · iexact H0
  isplitl [H1]; · iexact H1
  isplitl [H2]; · iexact H2
  isplitl [H3]; · iexact H3
  isplitl [H4]; · iexact H4
  iintro ⟨HP, H0, H1, H2, H3, H4⟩
  isplitl [HP]; · iexact HP
  isplitl [Ho]; · iexact Ho
  isplitl [H0]; · iexact H0
  isplitl [H1]; · iexact H1
  isplitl [H2]; · iexact H2
  isplitl [H3]; · iexists d3; iexact H3
  iexact H4

/-- The body obligation at every point. -/
theorem fobligation (c : Dev nD) : BodyObligationLoose (fdats (F := F) m 0 c) (defs₀ (F := F)) Variants.none () Set.univ forgets0 := fun t => by
  rw [bigSep_W0, bigSep_W0, fdefs₀_row]
  exact triple_restated (fsound m c t) rfl .rfl fun _ => .rfl

set_option backward.isDefEq.respectTransparency.types false in
/-- The launch: every execution ends, the inputs' arrays as launched, every counter at zero. -/
theorem frun : θ_run defs (onTc (τ := τ) (main (F := F))) (s₀ m ρ) (fun r => (Pipeline.RDat.FramePost (cfgs 0) (fun c => (fdats m 0 c).toRForget forgets0) (V m)) r ∧ r.2.sem = fun _ => 0) :=
  Pipeline.θ_run_frame_track_forget (Q' := _) cfgs (fdats m) (0 : Fin 1) launch0 defs₀ Variants.none forgets0 m ρ main
    (hbody := fun c => fobligation m c) (hshare := fun c => (fdats m 0 c).share_full fun _ => rfl)
    (howed := fun _ _ => rfl) (V := V m) (hmain := hmain m Variants.none) (hA := fA_eq m) (hin := fun _ => .rfl) (hout := fun _ => .rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c =>
      ⟨(Pipeline.RDat.FramePost.arr_in hr.1 c 1 rfl).trans ((fA_eq m c 1).trans (V_main_arg0 m c)),
      (Pipeline.RDat.FramePost.arr_in hr.1 c 2 rfl).trans ((fA_eq m c 2).trans (V_main_arg1 m c)),
      (Pipeline.RDat.FramePost.arr_in hr.1 c 3 rfl).trans ((fA_eq m c 3).trans (V_main_arg2 m c)),
      (Pipeline.RDat.FramePost.arr_in hr.1 c 0 rfl).trans ((fA_eq m c 0).trans (V_main_arg3 m c))⟩, hr.2⟩) (frun m ρ)

end Cert.KernelIdeal.Hand

end
-- ==== Proof.Exact.Dequant.lean ====
/- The weight block the head kernel dequantises into its scratch buffer, in closed form. -/
module

public import proofs.«01_k».proof.Proof.Exact.RunA
public import proofs.«01_k».proof.Proof.Exact.RunB
public import proofs.«01_k».proof.Proof.Exact.RunC
public import Idealize.ShloMosaic.Lib.Pointwise
public import Idealize.ShloMosaic.Lib.Pipeline.ReadBack
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The dequantised weight block: each code times the scale of its 128 by 128 tile. The tile's column in the scale table is
    clamped to the table's last column, as the kernel clamps it. -/
def Wt (i : grid0.Coords) (x0 : Vec Ideal S20x1187 .f32) (x3 : Vec Ideal S2560x512 .fp8e4m3) : Vec Ideal S2560x512 .bf16 :=
  fun y => (x3 y : EReal) * (x0 (ix2 ⟨(y 0).val / 128, by have h : (y 0).val < 2560 := (y 0).isLt; omega⟩
    ⟨min (4 * (i 1).val + (y 1).val / 128) 1186, by omega⟩) : EReal)

/-- One stored tile, at an index: the code there times the tile's scale is the dequantised weight there. -/
theorem tile_eq (i : grid0.Coords) (arg2 : Memref sig .tc .smem S20x1187 .f32) (harg2 : arg2.IsWhole)
    (arg5 : Memref sig .tc .vmem S2560x512 .fp8e4m3) (harg5 : arg5.IsWhole)
    (x0 : Vec Ideal S20x1187 .f32) (x3 : Vec Ideal S2560x512 .fp8e4m3) (a b : ℕ)
    (inb : ∀ d, (![a, b] : Fin 2 → ℕ) d + S128x128.size d ≤ S2560x512.size d)
    (off : Fin 2 → ℕ) (inb2 : ∀ d, off d + S1x1.size d ≤ S20x1187.size d) (h1 : 0 < S1x1.numel)
    (ha : a % 128 = 0) (hb : b % 128 = 0) (ho : off = ![a / 128, min (4 * (i 1).val + b / 128) 1186]) (x : S128x128.Idx) :
    shapeCast S128x128 (mulf (extf (F := Ideal) .bf16 (View.readAt (Elt Ideal) arg5.view (Rect.unit (s := S2560x512) ![a, b] S128x128.size inb).toLoadRect (harg5.unread x3)) bitsLt_fp8e4m3_bf16)
      (truncf .bf16 (broadcast S128x128 (View.readAt (Elt Ideal) arg2.view (Rect.unit (s := S20x1187) off S1x1.size inb2).toLoadRect (harg2.unread x0) (Shape.Idx.first h1))) bitsLt_bf16_f32)) shapeCasts_S128x128_S128x128 x
      = Wt i x0 x3 ((Rect.unit (s := S2560x512) ![a, b] S128x128.size inb).emb x) := by
  subst ho
  refine (congrFun (shapeCast_self (s := S128x128) _ _) x).trans ?_
  show (View.readAt (Elt Ideal) arg5.view (Rect.unit (s := S2560x512) ![a, b] S128x128.size inb).toLoadRect (harg5.unread x3) x : EReal)
      * (View.readAt (Elt Ideal) arg2.view (Rect.unit (s := S20x1187) _ S1x1.size inb2).toLoadRect (harg2.unread x0) (Shape.Idx.first h1) : EReal) = _
  rw [harg5.readAt_unread, harg2.readAt_unread]
  unfold Wt
  have hx0 : (x 0).val < 128 := (x 0).isLt
  have hx1 : (x 1).val < 128 := (x 1).isLt
  refine congrArg₂ (fun p q : EReal => p * q) rfl (congrArg x0 (funext fun d => Fin.ext ?_))
  match d with
  | ⟨0, _⟩ =>
    show a / 128 + 1 * 0 = (a + 1 * (x 0).val) / 128
    omega
  | ⟨1, _⟩ =>
    show min (4 * (i 1).val + b / 128) 1186 + 1 * 0 = min (4 * (i 1).val + (b + 1 * (x 1).val) / 128) 1186
    have e : (b + 1 * (x 1).val) / 128 = b / 128 := by omega
    rw [e]
    rfl

set_option maxHeartbeats 4000000 in
/-- What the run at case B stores in the weight scratch buffer is the dequantised block, piece by piece. -/
theorem pieces_B (c : Dev nD) (i : grid0.Coords) (arg2 : Memref sig .tc .smem S20x1187 .f32) (harg2 : arg2.IsWhole)
    (arg5 : Memref sig .tc .vmem S2560x512 .fp8e4m3) (harg5 : arg5.IsWhole)
    (x0 : Vec Ideal S20x1187 .f32) (x3 : Vec Ideal S2560x512 .fp8e4m3) :
    View.PiecesOf (Wt i x0 x3) (kernelRun0_B.sl.HS0_80 (F := Ideal) c i arg2 harg2 arg5 harg5 x0 x3) := by
  unfold kernelRun0_B.sl.HS0_80
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun x => tile_eq i arg2 harg2 arg5 harg5 x0 x3 2432 384 _ _ _ _ rfl rfl (k0_off20_eq i 3) x
  · exact fun x => tile_eq i arg2 harg2 arg5 harg5 x0 x3 2432 256 _ _ _ _ rfl rfl (k0_off20_eq i 2) x
  · exact fun x => tile_eq i arg2 harg2 arg5 harg5 x0 x3 2432 128 _ _ _ _ rfl rfl (k0_off20_eq i 1) x
  · exact fun x => tile_eq i arg2 harg2 arg5 harg5 x0 x3 2432 0 _ _ _ _ rfl rfl (k0_off20_eq i 0) x
  · exact fun x => tile_eq i arg2 harg2 arg5 harg5 x0 x3 2304 384 _ _ _ _ rfl rfl (k0_off19_eq i 3) x
  · exact fun x => tile_eq i arg2 harg2 arg5 harg5 x0 x3 2304 256 _ _ _ _ rfl rfl (k0_off19_eq i 2) x
  · exact fun x => tile_eq i arg2 harg2 arg5 harg5 x0 x3 2304 128 _ _ _ _ rfl rfl (k0_off19_eq i 1) x
  · exact fun x => tile_eq i arg2 harg2 arg5 harg5 x0 x3 2304 0 _ _ _ _ rfl rfl (k0_off19_eq i 0) x
  · exact fun x => tile_eq i arg2 harg2 arg5 harg5 x0 x3 2176 384 _ _ _ _ rfl rfl (k0_off18_eq i 3) x
  · exact fun x => tile_eq i arg2 harg2 arg5 harg5 x0 x3 2176 256 _ _ _ _ rfl rfl (k0_off18_eq i 2) x
  · exact fun x => tile_eq i arg2 harg2 arg5 harg5 x0 x3 2176 128 _ _ _ _ rfl rfl (k0_off18_eq i 1) x
  · exact fun x => tile_eq i arg2 harg2 arg5 harg5 x0 x3 2176 0 _ _ _ _ rfl rfl (k0_off18_eq i 0) x
  · exact fun x => tile_eq i arg2 harg2 arg5 harg5 x0 x3 2048 384 _ _ _ _ rfl rfl (k0_off17_eq i 3) x
  · exact fun x => tile_eq i arg2 harg2 arg5 harg5 x0 x3 2048 256 _ _ _ _ rfl rfl (k0_off17_eq i 2) x
  · exact fun x => tile_eq i arg2 harg2 arg5 harg5 x0 x3 2048 128 _ _ _ _ rfl rfl (k0_off17_eq i 1) x
  · exact fun x => tile_eq i arg2 harg2 arg5 harg5 x0 x3 2048 0 _ _ _ _ rfl rfl (k0_off17_eq i 0) x
  · exact fun x => tile_eq i arg2 harg2 arg5 harg5 x0 x3 1920 384 _ _ _ _ rfl rfl (k0_off16_eq i 3) x
  · exact fun x => tile_eq i arg2 harg2 arg5 harg5 x0 x3 1920 256 _ _ _ _ rfl rfl (k0_off16_eq i 2) x
  · exact fun x => tile_eq i arg2 harg2 arg5 harg5 x0 x3 1920 128 _ _ _ _ rfl rfl (k0_off16_eq i 1) x
  · exact fun x => tile_eq i arg2 harg2 arg5 harg5 x0 x3 1920 0 _ _ _ _ rfl rfl (k0_off16_eq i 0) x
  · exact fun x => tile_eq i arg2 harg2 arg5 harg5 x0 x3 1792 384 _ _ _ _ rfl rfl (k0_off15_eq i 3) x
  · exact fun x => tile_eq i arg2 harg2 arg5 harg5 x0 x3 1792 256 _ _ _ _ rfl rfl (k0_off15_eq i 2) x
  · exact fun x => tile_eq i arg2 harg2 arg5 harg5 x0 x3 1792 128 _ _ _ _ rfl rfl (k0_off15_eq i 1) x
  · exact fun x => tile_eq i arg2 harg2 arg5 harg5 x0 x3 1792 0 _ _ _ _ rfl rfl (k0_off15_eq i 0) x
  · exact fun x => tile_eq i arg2 harg2 arg5 harg5 x0 x3 1664 384 _ _ _ _ rfl rfl (k0_off14_eq i 3) x
  · exact fun x => tile_eq i arg2 harg2 arg5 harg5 x0 x3 1664 256 _ _ _ _ rfl rfl (k0_off14_eq i 2) x
  · exact fun x => tile_eq i arg2 harg2 arg5 harg5 x0 x3 1664 128 _ _ _ _ rfl rfl (k0_off14_eq i 1) x
  · exact fun x => tile_eq i arg2 harg2 arg5 harg5 x0 x3 1664 0 _ _ _ _ rfl rfl (k0_off14_eq i 0) x
  · exact fun x => tile_eq i arg2 harg2 arg5 harg5 x0 x3 1536 384 _ _ _ _ rfl rfl (k0_off13_eq i 3) x
  · exact fun x => tile_eq i arg2 harg2 arg5 harg5 x0 x3 1536 256 _ _ _ _ rfl rfl (k0_off13_eq i 2) x
  · exact fun x => tile_eq i arg2 harg2 arg5 harg5 x0 x3 1536 128 _ _ _ _ rfl rfl (k0_off13_eq i 1) x
  · exact fun x => tile_eq i arg2 harg2 arg5 harg5 x0 x3 1536 0 _ _ _ _ rfl rfl (k0_off13_eq i 0) x
  · exact fun x => tile_eq i arg2 harg2 arg5 harg5 x0 x3 1408 384 _ _ _ _ rfl rfl (k0_off12_eq i 3) x
  · exact fun x => tile_eq i arg2 harg2 arg5 harg5 x0 x3 1408 256 _ _ _ _ rfl rfl (k0_off12_eq i 2) x
  · exact fun x => tile_eq i arg2 harg2 arg5 harg5 x0 x3 1408 128 _ _ _ _ rfl rfl (k0_off12_eq i 1) x
  · exact fun x => tile_eq i arg2 harg2 arg5 harg5 x0 x3 1408 0 _ _ _ _ rfl rfl (k0_off12_eq i 0) x
  · exact fun x => tile_eq i arg2 harg2 arg5 harg5 x0 x3 1280 384 _ _ _ _ rfl rfl (k0_off11_eq i 3) x
  · exact fun x => tile_eq i arg2 harg2 arg5 harg5 x0 x3 1280 256 _ _ _ _ rfl rfl (k0_off11_eq i 2) x
  · exact fun x => tile_eq i arg2 harg2 arg5 harg5 x0 x3 1280 128 _ _ _ _ rfl rfl (k0_off11_eq i 1) x
  · exact fun x => tile_eq i arg2 harg2 arg5 harg5 x0 x3 1280 0 _ _ _ _ rfl rfl (k0_off11_eq i 0) x
  · exact fun x => tile_eq i arg2 harg2 arg5 harg5 x0 x3 1152 384 _ _ _ _ rfl rfl (k0_off10_eq i 3) x
  · exact fun x => tile_eq i arg2 harg2 arg5 harg5 x0 x3 1152 256 _ _ _ _ rfl rfl (k0_off10_eq i 2) x
  · exact fun x => tile_eq i arg2 harg2 arg5 harg5 x0 x3 1152 128 _ _ _ _ rfl rfl (k0_off10_eq i 1) x
  · exact fun x => tile_eq i arg2 harg2 arg5 harg5 x0 x3 1152 0 _ _ _ _ rfl rfl (k0_off10_eq i 0) x
  · exact fun x => tile_eq i arg2 harg2 arg5 harg5 x0 x3 1024 384 _ _ _ _ rfl rfl (k0_off9_eq i 3) x
  · exact fun x => tile_eq i arg2 harg2 arg5 harg5 x0 x3 1024 256 _ _ _ _ rfl rfl (k0_off9_eq i 2) x
  · exact fun x => tile_eq i arg2 harg2 arg5 harg5 x0 x3 1024 128 _ _ _ _ rfl rfl (k0_off9_eq i 1) x
  · exact fun x => tile_eq i arg2 harg2 arg5 harg5 x0 x3 1024 0 _ _ _ _ rfl rfl (k0_off9_eq i 0) x
  · exact fun x => tile_eq i arg2 harg2 arg5 harg5 x0 x3 896 384 _ _ _ _ rfl rfl (k0_off8_eq i 3) x
  · exact fun x => tile_eq i arg2 harg2 arg5 harg5 x0 x3 896 256 _ _ _ _ rfl rfl (k0_off8_eq i 2) x
  · exact fun x => tile_eq i arg2 harg2 arg5 harg5 x0 x3 896 128 _ _ _ _ rfl rfl (k0_off8_eq i 1) x
  · exact fun x => tile_eq i arg2 harg2 arg5 harg5 x0 x3 896 0 _ _ _ _ rfl rfl (k0_off8_eq i 0) x
  · exact fun x => tile_eq i arg2 harg2 arg5 harg5 x0 x3 768 384 _ _ _ _ rfl rfl (k0_off7_eq i 3) x
  · exact fun x => tile_eq i arg2 harg2 arg5 harg5 x0 x3 768 256 _ _ _ _ rfl rfl (k0_off7_eq i 2) x
  · exact fun x => tile_eq i arg2 harg2 arg5 harg5 x0 x3 768 128 _ _ _ _ rfl rfl (k0_off7_eq i 1) x
  · exact fun x => tile_eq i arg2 harg2 arg5 harg5 x0 x3 768 0 _ _ _ _ rfl rfl (k0_off7_eq i 0) x
  · exact fun x => tile_eq i arg2 harg2 arg5 harg5 x0 x3 640 384 _ _ _ _ rfl rfl (k0_off6_eq i 3) x
  · exact fun x => tile_eq i arg2 harg2 arg5 harg5 x0 x3 640 256 _ _ _ _ rfl rfl (k0_off6_eq i 2) x
  · exact fun x => tile_eq i arg2 harg2 arg5 harg5 x0 x3 640 128 _ _ _ _ rfl rfl (k0_off6_eq i 1) x
  · exact fun x => tile_eq i arg2 harg2 arg5 harg5 x0 x3 640 0 _ _ _ _ rfl rfl (k0_off6_eq i 0) x
  · exact fun x => tile_eq i arg2 harg2 arg5 harg5 x0 x3 512 384 _ _ _ _ rfl rfl (k0_off5_eq i 3) x
  · exact fun x => tile_eq i arg2 harg2 arg5 harg5 x0 x3 512 256 _ _ _ _ rfl rfl (k0_off5_eq i 2) x
  · exact fun x => tile_eq i arg2 harg2 arg5 harg5 x0 x3 512 128 _ _ _ _ rfl rfl (k0_off5_eq i 1) x
  · exact fun x => tile_eq i arg2 harg2 arg5 harg5 x0 x3 512 0 _ _ _ _ rfl rfl (k0_off5_eq i 0) x
  · exact fun x => tile_eq i arg2 harg2 arg5 harg5 x0 x3 384 384 _ _ _ _ rfl rfl (k0_off4_eq i 3) x
  · exact fun x => tile_eq i arg2 harg2 arg5 harg5 x0 x3 384 256 _ _ _ _ rfl rfl (k0_off4_eq i 2) x
  · exact fun x => tile_eq i arg2 harg2 arg5 harg5 x0 x3 384 128 _ _ _ _ rfl rfl (k0_off4_eq i 1) x
  · exact fun x => tile_eq i arg2 harg2 arg5 harg5 x0 x3 384 0 _ _ _ _ rfl rfl (k0_off4_eq i 0) x
  · exact fun x => tile_eq i arg2 harg2 arg5 harg5 x0 x3 256 384 _ _ _ _ rfl rfl (k0_off3_eq i 3) x
  · exact fun x => tile_eq i arg2 harg2 arg5 harg5 x0 x3 256 256 _ _ _ _ rfl rfl (k0_off3_eq i 2) x
  · exact fun x => tile_eq i arg2 harg2 arg5 harg5 x0 x3 256 128 _ _ _ _ rfl rfl (k0_off3_eq i 1) x
  · exact fun x => tile_eq i arg2 harg2 arg5 harg5 x0 x3 256 0 _ _ _ _ rfl rfl (k0_off3_eq i 0) x
  · exact fun x => tile_eq i arg2 harg2 arg5 harg5 x0 x3 128 384 _ _ _ _ rfl rfl (k0_off2_eq i 3) x
  · exact fun x => tile_eq i arg2 harg2 arg5 harg5 x0 x3 128 256 _ _ _ _ rfl rfl (k0_off2_eq i 2) x
  · exact fun x => tile_eq i arg2 harg2 arg5 harg5 x0 x3 128 128 _ _ _ _ rfl rfl (k0_off2_eq i 1) x
  · exact fun x => tile_eq i arg2 harg2 arg5 harg5 x0 x3 128 0 _ _ _ _ rfl rfl (k0_off2_eq i 0) x
  · exact fun x => tile_eq i arg2 harg2 arg5 harg5 x0 x3 0 384 _ _ _ _ rfl rfl (k0_off1_eq i 3) x
  · exact fun x => tile_eq i arg2 harg2 arg5 harg5 x0 x3 0 256 _ _ _ _ rfl rfl (k0_off1_eq i 2) x
  · exact fun x => tile_eq i arg2 harg2 arg5 harg5 x0 x3 0 128 _ _ _ _ rfl rfl (k0_off1_eq i 1) x
  · exact fun x => tile_eq i arg2 harg2 arg5 harg5 x0 x3 0 0 _ _ _ _ rfl rfl (k0_off1_eq i 0) x

/-- So a load of the whole weight scratch buffer reads the dequantised block. -/
theorem weights_B (c : Dev nD) (i : grid0.Coords) (arg2 : Memref sig .tc .smem S20x1187 .f32) (harg2 : arg2.IsWhole)
    (arg5 : Memref sig .tc .vmem S2560x512 .fp8e4m3) (harg5 : arg5.IsWhole) (arg7 : Memref sig .tc .vmem S2560x512 .bf16)
    (x0 : Vec Ideal S20x1187 .f32) (x3 : Vec Ideal S2560x512 .fp8e4m3) :
    kernelRun0_B.sl.v1044 (F := Ideal) c i arg2 harg2 arg5 harg5 arg7 x0 x3 = Wt i x0 x3 := by
  unfold kernelRun0_B.sl.v1044
  rw [View.readCov_eq_canon']
  funext y
  have h := View.canon_append_of_piecesOf (Wt i x0 x3) [] _ (pieces_B c i arg2 harg2 arg5 harg5 x0 x3)
    ((Rect.unit (s := S2560x512) ![0, 0] S2560x512.size inb_S2560x512_S2560x512_0_0).toLoadRect.idx y)
    (View.cover_of_tiledL (s := S2560x512) (kernelRun0_B.sl.HS0_80 (F := Ideal) c i arg2 harg2 arg5 harg5 x0 x3) S128x128.size (by sl_kernel_rfl) _)
  rw [List.append_nil] at h
  refine h.trans (congrArg (Wt i x0 x3) (funext fun d => Fin.ext ?_))
  match d with
  | ⟨0, _⟩ => show 0 + 1 * (y 0).val = (y 0).val; omega
  | ⟨1, _⟩ => show 0 + 1 * (y 1).val = (y 1).val; omega

set_option maxHeartbeats 4000000 in
/-- What the run at case A stores in the weight scratch buffer is the dequantised block, piece by piece. -/
theorem pieces_A (c : Dev nD) (i : grid0.Coords) (arg2 : Memref sig .tc .smem S20x1187 .f32) (harg2 : arg2.IsWhole)
    (arg5 : Memref sig .tc .vmem S2560x512 .fp8e4m3) (harg5 : arg5.IsWhole)
    (x0 : Vec Ideal S20x1187 .f32) (x3 : Vec Ideal S2560x512 .fp8e4m3) :
    View.PiecesOf (Wt i x0 x3) (kernelRun0_A.sl.HS0_80 (F := Ideal) c i arg2 harg2 arg5 harg5 x0 x3) := by
  unfold kernelRun0_A.sl.HS0_80
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun x => tile_eq i arg2 harg2 arg5 harg5 x0 x3 2432 384 _ _ _ _ rfl rfl (k0_off20_eq i 3) x
  · exact fun x => tile_eq i arg2 harg2 arg5 harg5 x0 x3 2432 256 _ _ _ _ rfl rfl (k0_off20_eq i 2) x
  · exact fun x => tile_eq i arg2 harg2 arg5 harg5 x0 x3 2432 128 _ _ _ _ rfl rfl (k0_off20_eq i 1) x
  · exact fun x => tile_eq i arg2 harg2 arg5 harg5 x0 x3 2432 0 _ _ _ _ rfl rfl (k0_off20_eq i 0) x
  · exact fun x => tile_eq i arg2 harg2 arg5 harg5 x0 x3 2304 384 _ _ _ _ rfl rfl (k0_off19_eq i 3) x
  · exact fun x => tile_eq i arg2 harg2 arg5 harg5 x0 x3 2304 256 _ _ _ _ rfl rfl (k0_off19_eq i 2) x
  · exact fun x => tile_eq i arg2 harg2 arg5 harg5 x0 x3 2304 128 _ _ _ _ rfl rfl (k0_off19_eq i 1) x
  · exact fun x => tile_eq i arg2 harg2 arg5 harg5 x0 x3 2304 0 _ _ _ _ rfl rfl (k0_off19_eq i 0) x
  · exact fun x => tile_eq i arg2 harg2 arg5 harg5 x0 x3 2176 384 _ _ _ _ rfl rfl (k0_off18_eq i 3) x
  · exact fun x => tile_eq i arg2 harg2 arg5 harg5 x0 x3 2176 256 _ _ _ _ rfl rfl (k0_off18_eq i 2) x
  · exact fun x => tile_eq i arg2 harg2 arg5 harg5 x0 x3 2176 128 _ _ _ _ rfl rfl (k0_off18_eq i 1) x
  · exact fun x => tile_eq i arg2 harg2 arg5 harg5 x0 x3 2176 0 _ _ _ _ rfl rfl (k0_off18_eq i 0) x
  · exact fun x => tile_eq i arg2 harg2 arg5 harg5 x0 x3 2048 384 _ _ _ _ rfl rfl (k0_off17_eq i 3) x
  · exact fun x => tile_eq i arg2 harg2 arg5 harg5 x0 x3 2048 256 _ _ _ _ rfl rfl (k0_off17_eq i 2) x
  · exact fun x => tile_eq i arg2 harg2 arg5 harg5 x0 x3 2048 128 _ _ _ _ rfl rfl (k0_off17_eq i 1) x
  · exact fun x => tile_eq i arg2 harg2 arg5 harg5 x0 x3 2048 0 _ _ _ _ rfl rfl (k0_off17_eq i 0) x
  · exact fun x => tile_eq i arg2 harg2 arg5 harg5 x0 x3 1920 384 _ _ _ _ rfl rfl (k0_off16_eq i 3) x
  · exact fun x => tile_eq i arg2 harg2 arg5 harg5 x0 x3 1920 256 _ _ _ _ rfl rfl (k0_off16_eq i 2) x
  · exact fun x => tile_eq i arg2 harg2 arg5 harg5 x0 x3 1920 128 _ _ _ _ rfl rfl (k0_off16_eq i 1) x
  · exact fun x => tile_eq i arg2 harg2 arg5 harg5 x0 x3 1920 0 _ _ _ _ rfl rfl (k0_off16_eq i 0) x
  · exact fun x => tile_eq i arg2 harg2 arg5 harg5 x0 x3 1792 384 _ _ _ _ rfl rfl (k0_off15_eq i 3) x
  · exact fun x => tile_eq i arg2 harg2 arg5 harg5 x0 x3 1792 256 _ _ _ _ rfl rfl (k0_off15_eq i 2) x
  · exact fun x => tile_eq i arg2 harg2 arg5 harg5 x0 x3 1792 128 _ _ _ _ rfl rfl (k0_off15_eq i 1) x
  · exact fun x => tile_eq i arg2 harg2 arg5 harg5 x0 x3 1792 0 _ _ _ _ rfl rfl (k0_off15_eq i 0) x
  · exact fun x => tile_eq i arg2 harg2 arg5 harg5 x0 x3 1664 384 _ _ _ _ rfl rfl (k0_off14_eq i 3) x
  · exact fun x => tile_eq i arg2 harg2 arg5 harg5 x0 x3 1664 256 _ _ _ _ rfl rfl (k0_off14_eq i 2) x
  · exact fun x => tile_eq i arg2 harg2 arg5 harg5 x0 x3 1664 128 _ _ _ _ rfl rfl (k0_off14_eq i 1) x
  · exact fun x => tile_eq i arg2 harg2 arg5 harg5 x0 x3 1664 0 _ _ _ _ rfl rfl (k0_off14_eq i 0) x
  · exact fun x => tile_eq i arg2 harg2 arg5 harg5 x0 x3 1536 384 _ _ _ _ rfl rfl (k0_off13_eq i 3) x
  · exact fun x => tile_eq i arg2 harg2 arg5 harg5 x0 x3 1536 256 _ _ _ _ rfl rfl (k0_off13_eq i 2) x
  · exact fun x => tile_eq i arg2 harg2 arg5 harg5 x0 x3 1536 128 _ _ _ _ rfl rfl (k0_off13_eq i 1) x
  · exact fun x => tile_eq i arg2 harg2 arg5 harg5 x0 x3 1536 0 _ _ _ _ rfl rfl (k0_off13_eq i 0) x
  · exact fun x => tile_eq i arg2 harg2 arg5 harg5 x0 x3 1408 384 _ _ _ _ rfl rfl (k0_off12_eq i 3) x
  · exact fun x => tile_eq i arg2 harg2 arg5 harg5 x0 x3 1408 256 _ _ _ _ rfl rfl (k0_off12_eq i 2) x
  · exact fun x => tile_eq i arg2 harg2 arg5 harg5 x0 x3 1408 128 _ _ _ _ rfl rfl (k0_off12_eq i 1) x
  · exact fun x => tile_eq i arg2 harg2 arg5 harg5 x0 x3 1408 0 _ _ _ _ rfl rfl (k0_off12_eq i 0) x
  · exact fun x => tile_eq i arg2 harg2 arg5 harg5 x0 x3 1280 384 _ _ _ _ rfl rfl (k0_off11_eq i 3) x
  · exact fun x => tile_eq i arg2 harg2 arg5 harg5 x0 x3 1280 256 _ _ _ _ rfl rfl (k0_off11_eq i 2) x
  · exact fun x => tile_eq i arg2 harg2 arg5 harg5 x0 x3 1280 128 _ _ _ _ rfl rfl (k0_off11_eq i 1) x
  · exact fun x => tile_eq i arg2 harg2 arg5 harg5 x0 x3 1280 0 _ _ _ _ rfl rfl (k0_off11_eq i 0) x
  · exact fun x => tile_eq i arg2 harg2 arg5 harg5 x0 x3 1152 384 _ _ _ _ rfl rfl (k0_off10_eq i 3) x
  · exact fun x => tile_eq i arg2 harg2 arg5 harg5 x0 x3 1152 256 _ _ _ _ rfl rfl (k0_off10_eq i 2) x
  · exact fun x => tile_eq i arg2 harg2 arg5 harg5 x0 x3 1152 128 _ _ _ _ rfl rfl (k0_off10_eq i 1) x
  · exact fun x => tile_eq i arg2 harg2 arg5 harg5 x0 x3 1152 0 _ _ _ _ rfl rfl (k0_off10_eq i 0) x
  · exact fun x => tile_eq i arg2 harg2 arg5 harg5 x0 x3 1024 384 _ _ _ _ rfl rfl (k0_off9_eq i 3) x
  · exact fun x => tile_eq i arg2 harg2 arg5 harg5 x0 x3 1024 256 _ _ _ _ rfl rfl (k0_off9_eq i 2) x
  · exact fun x => tile_eq i arg2 harg2 arg5 harg5 x0 x3 1024 128 _ _ _ _ rfl rfl (k0_off9_eq i 1) x
  · exact fun x => tile_eq i arg2 harg2 arg5 harg5 x0 x3 1024 0 _ _ _ _ rfl rfl (k0_off9_eq i 0) x
  · exact fun x => tile_eq i arg2 harg2 arg5 harg5 x0 x3 896 384 _ _ _ _ rfl rfl (k0_off8_eq i 3) x
  · exact fun x => tile_eq i arg2 harg2 arg5 harg5 x0 x3 896 256 _ _ _ _ rfl rfl (k0_off8_eq i 2) x
  · exact fun x => tile_eq i arg2 harg2 arg5 harg5 x0 x3 896 128 _ _ _ _ rfl rfl (k0_off8_eq i 1) x
  · exact fun x => tile_eq i arg2 harg2 arg5 harg5 x0 x3 896 0 _ _ _ _ rfl rfl (k0_off8_eq i 0) x
  · exact fun x => tile_eq i arg2 harg2 arg5 harg5 x0 x3 768 384 _ _ _ _ rfl rfl (k0_off7_eq i 3) x
  · exact fun x => tile_eq i arg2 harg2 arg5 harg5 x0 x3 768 256 _ _ _ _ rfl rfl (k0_off7_eq i 2) x
  · exact fun x => tile_eq i arg2 harg2 arg5 harg5 x0 x3 768 128 _ _ _ _ rfl rfl (k0_off7_eq i 1) x
  · exact fun x => tile_eq i arg2 harg2 arg5 harg5 x0 x3 768 0 _ _ _ _ rfl rfl (k0_off7_eq i 0) x
  · exact fun x => tile_eq i arg2 harg2 arg5 harg5 x0 x3 640 384 _ _ _ _ rfl rfl (k0_off6_eq i 3) x
  · exact fun x => tile_eq i arg2 harg2 arg5 harg5 x0 x3 640 256 _ _ _ _ rfl rfl (k0_off6_eq i 2) x
  · exact fun x => tile_eq i arg2 harg2 arg5 harg5 x0 x3 640 128 _ _ _ _ rfl rfl (k0_off6_eq i 1) x
  · exact fun x => tile_eq i arg2 harg2 arg5 harg5 x0 x3 640 0 _ _ _ _ rfl rfl (k0_off6_eq i 0) x
  · exact fun x => tile_eq i arg2 harg2 arg5 harg5 x0 x3 512 384 _ _ _ _ rfl rfl (k0_off5_eq i 3) x
  · exact fun x => tile_eq i arg2 harg2 arg5 harg5 x0 x3 512 256 _ _ _ _ rfl rfl (k0_off5_eq i 2) x
  · exact fun x => tile_eq i arg2 harg2 arg5 harg5 x0 x3 512 128 _ _ _ _ rfl rfl (k0_off5_eq i 1) x
  · exact fun x => tile_eq i arg2 harg2 arg5 harg5 x0 x3 512 0 _ _ _ _ rfl rfl (k0_off5_eq i 0) x
  · exact fun x => tile_eq i arg2 harg2 arg5 harg5 x0 x3 384 384 _ _ _ _ rfl rfl (k0_off4_eq i 3) x
  · exact fun x => tile_eq i arg2 harg2 arg5 harg5 x0 x3 384 256 _ _ _ _ rfl rfl (k0_off4_eq i 2) x
  · exact fun x => tile_eq i arg2 harg2 arg5 harg5 x0 x3 384 128 _ _ _ _ rfl rfl (k0_off4_eq i 1) x
  · exact fun x => tile_eq i arg2 harg2 arg5 harg5 x0 x3 384 0 _ _ _ _ rfl rfl (k0_off4_eq i 0) x
  · exact fun x => tile_eq i arg2 harg2 arg5 harg5 x0 x3 256 384 _ _ _ _ rfl rfl (k0_off3_eq i 3) x
  · exact fun x => tile_eq i arg2 harg2 arg5 harg5 x0 x3 256 256 _ _ _ _ rfl rfl (k0_off3_eq i 2) x
  · exact fun x => tile_eq i arg2 harg2 arg5 harg5 x0 x3 256 128 _ _ _ _ rfl rfl (k0_off3_eq i 1) x
  · exact fun x => tile_eq i arg2 harg2 arg5 harg5 x0 x3 256 0 _ _ _ _ rfl rfl (k0_off3_eq i 0) x
  · exact fun x => tile_eq i arg2 harg2 arg5 harg5 x0 x3 128 384 _ _ _ _ rfl rfl (k0_off2_eq i 3) x
  · exact fun x => tile_eq i arg2 harg2 arg5 harg5 x0 x3 128 256 _ _ _ _ rfl rfl (k0_off2_eq i 2) x
  · exact fun x => tile_eq i arg2 harg2 arg5 harg5 x0 x3 128 128 _ _ _ _ rfl rfl (k0_off2_eq i 1) x
  · exact fun x => tile_eq i arg2 harg2 arg5 harg5 x0 x3 128 0 _ _ _ _ rfl rfl (k0_off2_eq i 0) x
  · exact fun x => tile_eq i arg2 harg2 arg5 harg5 x0 x3 0 384 _ _ _ _ rfl rfl (k0_off1_eq i 3) x
  · exact fun x => tile_eq i arg2 harg2 arg5 harg5 x0 x3 0 256 _ _ _ _ rfl rfl (k0_off1_eq i 2) x
  · exact fun x => tile_eq i arg2 harg2 arg5 harg5 x0 x3 0 128 _ _ _ _ rfl rfl (k0_off1_eq i 1) x
  · exact fun x => tile_eq i arg2 harg2 arg5 harg5 x0 x3 0 0 _ _ _ _ rfl rfl (k0_off1_eq i 0) x

/-- So a load of the whole weight scratch buffer reads the dequantised block. -/
theorem weights_A (c : Dev nD) (i : grid0.Coords) (arg2 : Memref sig .tc .smem S20x1187 .f32) (harg2 : arg2.IsWhole)
    (arg5 : Memref sig .tc .vmem S2560x512 .fp8e4m3) (harg5 : arg5.IsWhole) (arg7 : Memref sig .tc .vmem S2560x512 .bf16)
    (x0 : Vec Ideal S20x1187 .f32) (x3 : Vec Ideal S2560x512 .fp8e4m3) :
    kernelRun0_A.sl.v1044 (F := Ideal) c i arg2 harg2 arg5 harg5 arg7 x0 x3 = Wt i x0 x3 := by
  unfold kernelRun0_A.sl.v1044
  rw [View.readCov_eq_canon']
  funext y
  have h := View.canon_append_of_piecesOf (Wt i x0 x3) [] _ (pieces_A c i arg2 harg2 arg5 harg5 x0 x3)
    ((Rect.unit (s := S2560x512) ![0, 0] S2560x512.size inb_S2560x512_S2560x512_0_0).toLoadRect.idx y)
    (View.cover_of_tiledL (s := S2560x512) (kernelRun0_A.sl.HS0_80 (F := Ideal) c i arg2 harg2 arg5 harg5 x0 x3) S128x128.size (by sl_kernel_rfl) _)
  rw [List.append_nil] at h
  refine h.trans (congrArg (Wt i x0 x3) (funext fun d => Fin.ext ?_))
  match d with
  | ⟨0, _⟩ => show 0 + 1 * (y 0).val = (y 0).val; omega
  | ⟨1, _⟩ => show 0 + 1 * (y 1).val = (y 1).val; omega

set_option maxHeartbeats 4000000 in
/-- What the run at case C stores in the weight scratch buffer is the dequantised block, piece by piece. -/
theorem pieces_C (c : Dev nD) (i : grid0.Coords) (arg2 : Memref sig .tc .smem S20x1187 .f32) (harg2 : arg2.IsWhole)
    (arg5 : Memref sig .tc .vmem S2560x512 .fp8e4m3) (harg5 : arg5.IsWhole)
    (x0 : Vec Ideal S20x1187 .f32) (x3 : Vec Ideal S2560x512 .fp8e4m3) :
    View.PiecesOf (Wt i x0 x3) (kernelRun0_C.sl.HS0_80 (F := Ideal) c i arg2 harg2 arg5 harg5 x0 x3) := by
  unfold kernelRun0_C.sl.HS0_80
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun x => tile_eq i arg2 harg2 arg5 harg5 x0 x3 2432 384 _ _ _ _ rfl rfl (k0_off20_eq i 3) x
  · exact fun x => tile_eq i arg2 harg2 arg5 harg5 x0 x3 2432 256 _ _ _ _ rfl rfl (k0_off20_eq i 2) x
  · exact fun x => tile_eq i arg2 harg2 arg5 harg5 x0 x3 2432 128 _ _ _ _ rfl rfl (k0_off20_eq i 1) x
  · exact fun x => tile_eq i arg2 harg2 arg5 harg5 x0 x3 2432 0 _ _ _ _ rfl rfl (k0_off20_eq i 0) x
  · exact fun x => tile_eq i arg2 harg2 arg5 harg5 x0 x3 2304 384 _ _ _ _ rfl rfl (k0_off19_eq i 3) x
  · exact fun x => tile_eq i arg2 harg2 arg5 harg5 x0 x3 2304 256 _ _ _ _ rfl rfl (k0_off19_eq i 2) x
  · exact fun x => tile_eq i arg2 harg2 arg5 harg5 x0 x3 2304 128 _ _ _ _ rfl rfl (k0_off19_eq i 1) x
  · exact fun x => tile_eq i arg2 harg2 arg5 harg5 x0 x3 2304 0 _ _ _ _ rfl rfl (k0_off19_eq i 0) x
  · exact fun x => tile_eq i arg2 harg2 arg5 harg5 x0 x3 2176 384 _ _ _ _ rfl rfl (k0_off18_eq i 3) x
  · exact fun x => tile_eq i arg2 harg2 arg5 harg5 x0 x3 2176 256 _ _ _ _ rfl rfl (k0_off18_eq i 2) x
  · exact fun x => tile_eq i arg2 harg2 arg5 harg5 x0 x3 2176 128 _ _ _ _ rfl rfl (k0_off18_eq i 1) x
  · exact fun x => tile_eq i arg2 harg2 arg5 harg5 x0 x3 2176 0 _ _ _ _ rfl rfl (k0_off18_eq i 0) x
  · exact fun x => tile_eq i arg2 harg2 arg5 harg5 x0 x3 2048 384 _ _ _ _ rfl rfl (k0_off17_eq i 3) x
  · exact fun x => tile_eq i arg2 harg2 arg5 harg5 x0 x3 2048 256 _ _ _ _ rfl rfl (k0_off17_eq i 2) x
  · exact fun x => tile_eq i arg2 harg2 arg5 harg5 x0 x3 2048 128 _ _ _ _ rfl rfl (k0_off17_eq i 1) x
  · exact fun x => tile_eq i arg2 harg2 arg5 harg5 x0 x3 2048 0 _ _ _ _ rfl rfl (k0_off17_eq i 0) x
  · exact fun x => tile_eq i arg2 harg2 arg5 harg5 x0 x3 1920 384 _ _ _ _ rfl rfl (k0_off16_eq i 3) x
  · exact fun x => tile_eq i arg2 harg2 arg5 harg5 x0 x3 1920 256 _ _ _ _ rfl rfl (k0_off16_eq i 2) x
  · exact fun x => tile_eq i arg2 harg2 arg5 harg5 x0 x3 1920 128 _ _ _ _ rfl rfl (k0_off16_eq i 1) x
  · exact fun x => tile_eq i arg2 harg2 arg5 harg5 x0 x3 1920 0 _ _ _ _ rfl rfl (k0_off16_eq i 0) x
  · exact fun x => tile_eq i arg2 harg2 arg5 harg5 x0 x3 1792 384 _ _ _ _ rfl rfl (k0_off15_eq i 3) x
  · exact fun x => tile_eq i arg2 harg2 arg5 harg5 x0 x3 1792 256 _ _ _ _ rfl rfl (k0_off15_eq i 2) x
  · exact fun x => tile_eq i arg2 harg2 arg5 harg5 x0 x3 1792 128 _ _ _ _ rfl rfl (k0_off15_eq i 1) x
  · exact fun x => tile_eq i arg2 harg2 arg5 harg5 x0 x3 1792 0 _ _ _ _ rfl rfl (k0_off15_eq i 0) x
  · exact fun x => tile_eq i arg2 harg2 arg5 harg5 x0 x3 1664 384 _ _ _ _ rfl rfl (k0_off14_eq i 3) x
  · exact fun x => tile_eq i arg2 harg2 arg5 harg5 x0 x3 1664 256 _ _ _ _ rfl rfl (k0_off14_eq i 2) x
  · exact fun x => tile_eq i arg2 harg2 arg5 harg5 x0 x3 1664 128 _ _ _ _ rfl rfl (k0_off14_eq i 1) x
  · exact fun x => tile_eq i arg2 harg2 arg5 harg5 x0 x3 1664 0 _ _ _ _ rfl rfl (k0_off14_eq i 0) x
  · exact fun x => tile_eq i arg2 harg2 arg5 harg5 x0 x3 1536 384 _ _ _ _ rfl rfl (k0_off13_eq i 3) x
  · exact fun x => tile_eq i arg2 harg2 arg5 harg5 x0 x3 1536 256 _ _ _ _ rfl rfl (k0_off13_eq i 2) x
  · exact fun x => tile_eq i arg2 harg2 arg5 harg5 x0 x3 1536 128 _ _ _ _ rfl rfl (k0_off13_eq i 1) x
  · exact fun x => tile_eq i arg2 harg2 arg5 harg5 x0 x3 1536 0 _ _ _ _ rfl rfl (k0_off13_eq i 0) x
  · exact fun x => tile_eq i arg2 harg2 arg5 harg5 x0 x3 1408 384 _ _ _ _ rfl rfl (k0_off12_eq i 3) x
  · exact fun x => tile_eq i arg2 harg2 arg5 harg5 x0 x3 1408 256 _ _ _ _ rfl rfl (k0_off12_eq i 2) x
  · exact fun x => tile_eq i arg2 harg2 arg5 harg5 x0 x3 1408 128 _ _ _ _ rfl rfl (k0_off12_eq i 1) x
  · exact fun x => tile_eq i arg2 harg2 arg5 harg5 x0 x3 1408 0 _ _ _ _ rfl rfl (k0_off12_eq i 0) x
  · exact fun x => tile_eq i arg2 harg2 arg5 harg5 x0 x3 1280 384 _ _ _ _ rfl rfl (k0_off11_eq i 3) x
  · exact fun x => tile_eq i arg2 harg2 arg5 harg5 x0 x3 1280 256 _ _ _ _ rfl rfl (k0_off11_eq i 2) x
  · exact fun x => tile_eq i arg2 harg2 arg5 harg5 x0 x3 1280 128 _ _ _ _ rfl rfl (k0_off11_eq i 1) x
  · exact fun x => tile_eq i arg2 harg2 arg5 harg5 x0 x3 1280 0 _ _ _ _ rfl rfl (k0_off11_eq i 0) x
  · exact fun x => tile_eq i arg2 harg2 arg5 harg5 x0 x3 1152 384 _ _ _ _ rfl rfl (k0_off10_eq i 3) x
  · exact fun x => tile_eq i arg2 harg2 arg5 harg5 x0 x3 1152 256 _ _ _ _ rfl rfl (k0_off10_eq i 2) x
  · exact fun x => tile_eq i arg2 harg2 arg5 harg5 x0 x3 1152 128 _ _ _ _ rfl rfl (k0_off10_eq i 1) x
  · exact fun x => tile_eq i arg2 harg2 arg5 harg5 x0 x3 1152 0 _ _ _ _ rfl rfl (k0_off10_eq i 0) x
  · exact fun x => tile_eq i arg2 harg2 arg5 harg5 x0 x3 1024 384 _ _ _ _ rfl rfl (k0_off9_eq i 3) x
  · exact fun x => tile_eq i arg2 harg2 arg5 harg5 x0 x3 1024 256 _ _ _ _ rfl rfl (k0_off9_eq i 2) x
  · exact fun x => tile_eq i arg2 harg2 arg5 harg5 x0 x3 1024 128 _ _ _ _ rfl rfl (k0_off9_eq i 1) x
  · exact fun x => tile_eq i arg2 harg2 arg5 harg5 x0 x3 1024 0 _ _ _ _ rfl rfl (k0_off9_eq i 0) x
  · exact fun x => tile_eq i arg2 harg2 arg5 harg5 x0 x3 896 384 _ _ _ _ rfl rfl (k0_off8_eq i 3) x
  · exact fun x => tile_eq i arg2 harg2 arg5 harg5 x0 x3 896 256 _ _ _ _ rfl rfl (k0_off8_eq i 2) x
  · exact fun x => tile_eq i arg2 harg2 arg5 harg5 x0 x3 896 128 _ _ _ _ rfl rfl (k0_off8_eq i 1) x
  · exact fun x => tile_eq i arg2 harg2 arg5 harg5 x0 x3 896 0 _ _ _ _ rfl rfl (k0_off8_eq i 0) x
  · exact fun x => tile_eq i arg2 harg2 arg5 harg5 x0 x3 768 384 _ _ _ _ rfl rfl (k0_off7_eq i 3) x
  · exact fun x => tile_eq i arg2 harg2 arg5 harg5 x0 x3 768 256 _ _ _ _ rfl rfl (k0_off7_eq i 2) x
  · exact fun x => tile_eq i arg2 harg2 arg5 harg5 x0 x3 768 128 _ _ _ _ rfl rfl (k0_off7_eq i 1) x
  · exact fun x => tile_eq i arg2 harg2 arg5 harg5 x0 x3 768 0 _ _ _ _ rfl rfl (k0_off7_eq i 0) x
  · exact fun x => tile_eq i arg2 harg2 arg5 harg5 x0 x3 640 384 _ _ _ _ rfl rfl (k0_off6_eq i 3) x
  · exact fun x => tile_eq i arg2 harg2 arg5 harg5 x0 x3 640 256 _ _ _ _ rfl rfl (k0_off6_eq i 2) x
  · exact fun x => tile_eq i arg2 harg2 arg5 harg5 x0 x3 640 128 _ _ _ _ rfl rfl (k0_off6_eq i 1) x
  · exact fun x => tile_eq i arg2 harg2 arg5 harg5 x0 x3 640 0 _ _ _ _ rfl rfl (k0_off6_eq i 0) x
  · exact fun x => tile_eq i arg2 harg2 arg5 harg5 x0 x3 512 384 _ _ _ _ rfl rfl (k0_off5_eq i 3) x
  · exact fun x => tile_eq i arg2 harg2 arg5 harg5 x0 x3 512 256 _ _ _ _ rfl rfl (k0_off5_eq i 2) x
  · exact fun x => tile_eq i arg2 harg2 arg5 harg5 x0 x3 512 128 _ _ _ _ rfl rfl (k0_off5_eq i 1) x
  · exact fun x => tile_eq i arg2 harg2 arg5 harg5 x0 x3 512 0 _ _ _ _ rfl rfl (k0_off5_eq i 0) x
  · exact fun x => tile_eq i arg2 harg2 arg5 harg5 x0 x3 384 384 _ _ _ _ rfl rfl (k0_off4_eq i 3) x
  · exact fun x => tile_eq i arg2 harg2 arg5 harg5 x0 x3 384 256 _ _ _ _ rfl rfl (k0_off4_eq i 2) x
  · exact fun x => tile_eq i arg2 harg2 arg5 harg5 x0 x3 384 128 _ _ _ _ rfl rfl (k0_off4_eq i 1) x
  · exact fun x => tile_eq i arg2 harg2 arg5 harg5 x0 x3 384 0 _ _ _ _ rfl rfl (k0_off4_eq i 0) x
  · exact fun x => tile_eq i arg2 harg2 arg5 harg5 x0 x3 256 384 _ _ _ _ rfl rfl (k0_off3_eq i 3) x
  · exact fun x => tile_eq i arg2 harg2 arg5 harg5 x0 x3 256 256 _ _ _ _ rfl rfl (k0_off3_eq i 2) x
  · exact fun x => tile_eq i arg2 harg2 arg5 harg5 x0 x3 256 128 _ _ _ _ rfl rfl (k0_off3_eq i 1) x
  · exact fun x => tile_eq i arg2 harg2 arg5 harg5 x0 x3 256 0 _ _ _ _ rfl rfl (k0_off3_eq i 0) x
  · exact fun x => tile_eq i arg2 harg2 arg5 harg5 x0 x3 128 384 _ _ _ _ rfl rfl (k0_off2_eq i 3) x
  · exact fun x => tile_eq i arg2 harg2 arg5 harg5 x0 x3 128 256 _ _ _ _ rfl rfl (k0_off2_eq i 2) x
  · exact fun x => tile_eq i arg2 harg2 arg5 harg5 x0 x3 128 128 _ _ _ _ rfl rfl (k0_off2_eq i 1) x
  · exact fun x => tile_eq i arg2 harg2 arg5 harg5 x0 x3 128 0 _ _ _ _ rfl rfl (k0_off2_eq i 0) x
  · exact fun x => tile_eq i arg2 harg2 arg5 harg5 x0 x3 0 384 _ _ _ _ rfl rfl (k0_off1_eq i 3) x
  · exact fun x => tile_eq i arg2 harg2 arg5 harg5 x0 x3 0 256 _ _ _ _ rfl rfl (k0_off1_eq i 2) x
  · exact fun x => tile_eq i arg2 harg2 arg5 harg5 x0 x3 0 128 _ _ _ _ rfl rfl (k0_off1_eq i 1) x
  · exact fun x => tile_eq i arg2 harg2 arg5 harg5 x0 x3 0 0 _ _ _ _ rfl rfl (k0_off1_eq i 0) x

/-- So a load of the whole weight scratch buffer reads the dequantised block. -/
theorem weights_C (c : Dev nD) (i : grid0.Coords) (arg2 : Memref sig .tc .smem S20x1187 .f32) (harg2 : arg2.IsWhole)
    (arg5 : Memref sig .tc .vmem S2560x512 .fp8e4m3) (harg5 : arg5.IsWhole) (arg7 : Memref sig .tc .vmem S2560x512 .bf16)
    (x0 : Vec Ideal S20x1187 .f32) (x3 : Vec Ideal S2560x512 .fp8e4m3) :
    kernelRun0_C.sl.v1044 (F := Ideal) c i arg2 harg2 arg5 harg5 arg7 x0 x3 = Wt i x0 x3 := by
  unfold kernelRun0_C.sl.v1044
  rw [View.readCov_eq_canon']
  funext y
  have h := View.canon_append_of_piecesOf (Wt i x0 x3) [] _ (pieces_C c i arg2 harg2 arg5 harg5 x0 x3)
    ((Rect.unit (s := S2560x512) ![0, 0] S2560x512.size inb_S2560x512_S2560x512_0_0).toLoadRect.idx y)
    (View.cover_of_tiledL (s := S2560x512) (kernelRun0_C.sl.HS0_80 (F := Ideal) c i arg2 harg2 arg5 harg5 x0 x3) S128x128.size (by sl_kernel_rfl) _)
  rw [List.append_nil] at h
  refine h.trans (congrArg (Wt i x0 x3) (funext fun d => Fin.ext ?_))
  match d with
  | ⟨0, _⟩ => show 0 + 1 * (y 0).val = (y 0).val; omega
  | ⟨1, _⟩ => show 0 + 1 * (y 1).val = (y 1).val; omega

end Cert.KernelIdeal.Hand

end
-- ==== Proof.Exact.Lse.lean ====
/-
  The running log-sum-exp, over the extended reals: a maximum and a sum of exponentials carried block by block equal the
  maximum and the sum taken at once. Nothing here mentions the kernel.
-/
module

public import Idealize.ShloMosaic.Lib.ValueIdx

@[expose] public section

noncomputable section

open scoped BigOperators

namespace Cert.Lse

open Idealize.ShloMosaic

/-- An exponential is at least zero. -/
theorem exp_nonneg (x : EReal) : 0 ≤ Ideal.exp x := by
  induction x with
  | bot => simp
  | top => simp
  | coe r => rw [Ideal.exp_coe]; exact_mod_cast (Real.exp_pos r).le

/-- The exponential of minus infinity less anything is zero. -/
theorem exp_bot_sub (m : EReal) : Ideal.exp (⊥ - m) = 0 := by
  rw [EReal.bot_sub, Ideal.exp_bot]

/-- Moving one exponential from the maximum `m` to a later maximum `m'`. -/
theorem exp_shift {x m m' : EReal} (hx : x ≤ m) (hm : m ≤ m') :
    Ideal.exp (x - m) * Ideal.exp (m - m') = Ideal.exp (x - m') := by
  induction m with
  | bot =>
    obtain rfl : x = ⊥ := le_bot_iff.mp hx
    rw [exp_bot_sub, exp_bot_sub, zero_mul]
  | top =>
    obtain rfl : m' = ⊤ := top_le_iff.mp hm
    rw [EReal.sub_top, Ideal.exp_bot, zero_mul]
  | coe m =>
    induction x with
    | bot => rw [exp_bot_sub, exp_bot_sub, zero_mul]
    | top => exact absurd hx (by simp)
    | coe x =>
      induction m' with
      | bot => exact absurd hm (by simp)
      | top => rw [EReal.sub_top, EReal.sub_top, Ideal.exp_bot, mul_zero]
      | coe m' =>
        rw [← EReal.coe_sub, ← EReal.coe_sub, ← EReal.coe_sub, Ideal.exp_coe, Ideal.exp_coe, Ideal.exp_coe,
          ← EReal.coe_mul, ← Real.exp_add]
        congr 2
        ring

/-- A sum of exponentials is at least zero. -/
theorem sum_exp_nonneg {ι : Type} (s : Finset ι) (x : ι → EReal) : 0 ≤ ∑ j ∈ s, Ideal.exp (x j) :=
  Finset.sum_nonneg fun _ _ => exp_nonneg _

/-- Moving a sum of exponentials from the maximum `m` to a later maximum `m'`. -/
theorem sum_exp_shift {ι : Type} (s : Finset ι) (x : ι → EReal) {m m' : EReal} (hx : ∀ j ∈ s, x j ≤ m) (hm : m ≤ m') :
    (∑ j ∈ s, Ideal.exp (x j - m)) * Ideal.exp (m - m') = ∑ j ∈ s, Ideal.exp (x j - m') := by
  classical
  induction s using Finset.induction_on with
  | empty => simp
  | insert a s ha ih =>
    rw [Finset.sum_insert ha, Finset.sum_insert ha,
      EReal.right_distrib_of_nonneg (exp_nonneg _) (sum_exp_nonneg s fun j => x j - m),
      exp_shift (hx a (Finset.mem_insert_self a s)) hm, ih fun j hj => hx j (Finset.mem_insert_of_mem hj)]

/-! ## One lane: the columns `128 * q + L` of a row, for `q` below a bound -/

/-- The largest of the first `n` entries. -/
def mx (y : ℕ → EReal) (n : ℕ) : EReal := (Finset.range n).sup y

/-- The sum of the exponentials of the first `n` entries, each less the largest of them. -/
def se (y : ℕ → EReal) (n : ℕ) : EReal := ∑ q ∈ Finset.range n, Ideal.exp (y q - mx y n)

theorem mx_zero (y : ℕ → EReal) : mx y 0 = ⊥ := rfl

theorem se_zero (y : ℕ → EReal) : se y 0 = 0 := rfl

theorem mx_succ (y : ℕ → EReal) (n : ℕ) : mx y (n + 1) = max (mx y n) (y n) := by
  unfold mx
  rw [Finset.range_add_one, Finset.sup_insert, sup_comm]

theorem le_mx (y : ℕ → EReal) {n q : ℕ} (h : q < n) : y q ≤ mx y n :=
  Finset.le_sup (f := y) (Finset.mem_range.mpr h)

/-- Four more entries: the largest. -/
theorem mx_four (y : ℕ → EReal) (n : ℕ) :
    mx y (4 * (n + 1)) = max (max (max (max (mx y (4 * n)) (y (4 * n))) (y (4 * n + 1))) (y (4 * n + 2))) (y (4 * n + 3)) := by
  rw [show 4 * (n + 1) = 4 * n + 1 + 1 + 1 + 1 by omega, mx_succ, mx_succ, mx_succ, mx_succ]

/-- Four more entries: the sum, carried to the new largest. -/
theorem se_four (y : ℕ → EReal) (n : ℕ) :
    se y (4 * (n + 1)) =
      (((se y (4 * n) * Ideal.exp (mx y (4 * n) - mx y (4 * (n + 1))) + Ideal.exp (y (4 * n) - mx y (4 * (n + 1))))
        + Ideal.exp (y (4 * n + 1) - mx y (4 * (n + 1)))) + Ideal.exp (y (4 * n + 2) - mx y (4 * (n + 1))))
        + Ideal.exp (y (4 * n + 3) - mx y (4 * (n + 1))) := by
  unfold se
  rw [sum_exp_shift (Finset.range (4 * n)) y (fun j hj => le_mx y (Finset.mem_range.mp hj))
    (show mx y (4 * n) ≤ mx y (4 * (n + 1)) from Finset.sup_mono (Finset.range_mono (by omega)))]
  generalize mx y (4 * (n + 1)) = M
  rw [show 4 * (n + 1) = 4 * n + 1 + 1 + 1 + 1 by omega, Finset.sum_range_succ, Finset.sum_range_succ,
    Finset.sum_range_succ, Finset.sum_range_succ]

/-- One block as the kernel does it: the maximum from the four maxima, the sum from the four exponentials. -/
theorem block_four (y : ℕ → EReal) (n : ℕ) {m l x0 x1 x2 x3 : EReal} (hm : m = mx y (4 * n)) (hl : l = se y (4 * n))
    (h0 : x0 = y (4 * n)) (h1 : x1 = y (4 * n + 1)) (h2 : x2 = y (4 * n + 2)) (h3 : x3 = y (4 * n + 3)) :
    max (max (max (max m x0) x1) x2) x3 = mx y (4 * (n + 1)) ∧
    (((l * Ideal.exp (m - max (max (max (max m x0) x1) x2) x3) + Ideal.exp (x0 - max (max (max (max m x0) x1) x2) x3))
        + Ideal.exp (x1 - max (max (max (max m x0) x1) x2) x3)) + Ideal.exp (x2 - max (max (max (max m x0) x1) x2) x3))
        + Ideal.exp (x3 - max (max (max (max m x0) x1) x2) x3) = se y (4 * (n + 1)) := by
  subst hm hl h0 h1 h2 h3
  rw [← mx_four, ← se_four]
  exact ⟨rfl, rfl⟩

/-! ## All lanes together -/

/-- The columns `128 * q + L` with `q < 1188` and `L < 128` are the columns below `152064`. -/
theorem sum_lanes (f : ℕ → EReal) :
    ∑ L : Fin 128, ∑ q ∈ Finset.range 1188, f (128 * q + L.val) = ∑ j ∈ Finset.range 152064, f j := by
  rw [Finset.sum_comm]
  have h : ∀ N : ℕ, ∑ q ∈ Finset.range N, ∑ L : Fin 128, f (128 * q + L.val) = ∑ j ∈ Finset.range (128 * N), f j := by
    intro N
    induction N with
    | zero => rfl
    | succ N ih =>
      rw [Finset.sum_range_succ, ih, show 128 * (N + 1) = 128 * N + 128 by omega, Finset.sum_range_add,
        Fin.sum_univ_eq_sum_range (fun i => f (128 * N + i)) 128]
  exact h 1188

/-- The largest over the lanes of the lanes' largest entries is the largest of all. -/
theorem sup_lanes (x : ℕ → EReal) :
    (Finset.univ : Finset (Fin 128)).sup (fun L => mx (fun q => x (128 * q + L.val)) 1188) = (Finset.range 152064).sup x := by
  apply le_antisymm
  · refine Finset.sup_le fun L _ => Finset.sup_le fun q hq => ?_
    have hq' := Finset.mem_range.mp hq
    have hL := L.isLt
    exact Finset.le_sup (f := x) (Finset.mem_range.mpr (by omega))
  · refine Finset.sup_le fun j hj => ?_
    have hj' := Finset.mem_range.mp hj
    have h1 : x j ≤ mx (fun q => x (128 * q + j % 128)) 1188 := by
      have h := le_mx (fun q => x (128 * q + j % 128)) (n := 1188) (q := j / 128) (by omega)
      have e : 128 * (j / 128) + j % 128 = j := by omega
      simpa only [e] using h
    exact h1.trans (Finset.le_sup (f := fun L : Fin 128 => mx (fun q => x (128 * q + L.val)) 1188)
      (Finset.mem_univ (⟨j % 128, by omega⟩ : Fin 128)))

/-- The lanes' sums, each carried to the largest of all and added, are the sum over all the columns. -/
theorem sum_lanes_shift (x : ℕ → EReal) {M : EReal} (hM : M = (Finset.range 152064).sup x) :
    ∑ L : Fin 128, se (fun q => x (128 * q + L.val)) 1188 * Ideal.exp (mx (fun q => x (128 * q + L.val)) 1188 - M) =
      ∑ j ∈ Finset.range 152064, Ideal.exp (x j - M) := by
  rw [← sum_lanes fun j => Ideal.exp (x j - M)]
  refine Finset.sum_congr rfl fun L _ => ?_
  unfold se
  refine sum_exp_shift (Finset.range 1188) (fun q => x (128 * q + L.val))
    (fun j hj => le_mx (fun q => x (128 * q + L.val)) (Finset.mem_range.mp hj)) ?_
  rw [hM, ← sup_lanes]
  exact Finset.le_sup (f := fun L : Fin 128 => mx (fun q => x (128 * q + L.val)) 1188) (Finset.mem_univ L)

/-- Columns at minus infinity past the vocabulary change neither the largest … -/
theorem sup_tail (x : ℕ → EReal) (h : ∀ j, 151936 ≤ j → x j = ⊥) :
    (Finset.range 152064).sup x = (Finset.univ : Finset (Fin 151936)).sup fun j => x j.val := by
  apply le_antisymm
  · refine Finset.sup_le fun j _ => ?_
    by_cases hj : j < 151936
    · exact Finset.le_sup (f := fun j : Fin 151936 => x j.val) (Finset.mem_univ (⟨j, hj⟩ : Fin 151936))
    · rw [h j (by omega)]; exact bot_le
  · refine Finset.sup_le fun j _ => Finset.le_sup (f := x) (Finset.mem_range.mpr (by have := j.isLt; omega))

/-- … nor the sum of exponentials. -/
theorem sum_tail (x : ℕ → EReal) (h : ∀ j, 151936 ≤ j → x j = ⊥) (M : EReal) :
    ∑ j ∈ Finset.range 152064, Ideal.exp (x j - M) = ∑ j : Fin 151936, Ideal.exp (x j.val - M) := by
  rw [Fin.sum_univ_eq_sum_range (fun j => Ideal.exp (x j - M)) 151936, show 152064 = 151936 + 128 by omega,
    Finset.sum_range_add]
  rw [Finset.sum_eq_zero (s := Finset.range 128) fun j _ => by rw [h _ (by omega), exp_bot_sub], add_zero]

/-- A value that one lane holds and every other lane holds as zero is the lanes' sum. -/
theorem sum_lane_target (v : EReal) (T : ℕ) :
    ∑ L : Fin 128, (if L.val = T % 128 then v else 0) = v := by
  rw [Finset.sum_eq_single (⟨T % 128, by omega⟩ : Fin 128)]
  · rw [if_pos rfl]
  · intro L _ hL
    exact if_neg fun h => hL (Fin.ext h)
  · exact fun h => absurd (Finset.mem_univ _) h

end Cert.Lse

end
-- ==== Proof.Exact.Step.lean ====
/- One vocabulary block's update of the running maximum, sum and target logit, read at an index. -/
module

public import proofs.«01_k».proof.Proof.Exact.Dequant
public import proofs.«01_k».proof.Proof.Exact.Lse

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open scoped BigOperators

/-- The running maximum after a block, from the maximum before it. -/
def stepM (a : BitVec 32) (x1 : Vec Ideal S1536x2560 .bf16) (W : Vec Ideal S2560x512 .bf16) (m : Vec Ideal S1536x128 .f32) :
    FVec Ideal S1536x128 .f32 :=
  k0_pay108 a (k0_pay101 x1 W) m (k0_pay103 a x1 W)

/-- The running sum of exponentials after a block. -/
def stepL (a : BitVec 32) (x1 : Vec Ideal S1536x2560 .bf16) (W : Vec Ideal S2560x512 .bf16) (m l : Vec Ideal S1536x128 .f32) :
    FVec Ideal S1536x128 .f32 :=
  k0_pay109 m (k0_pay103 a x1 W) (k0_pay104 a (k0_pay101 x1 W)) (k0_pay105 a (k0_pay101 x1 W)) (k0_pay106 a (k0_pay101 x1 W))
    (stepM a x1 W m) l

/-- The running target logit after a block. -/
def stepT (a : BitVec 32) (x1 : Vec Ideal S1536x2560 .bf16) (x2 : Vec Ideal S1536x1 .i32) (W : Vec Ideal S2560x512 .bf16)
    (t : Vec Ideal S1536x128 .f32) : FVec Ideal S1536x128 .f32 :=
  k0_pay107 a (k0_pay101 x1 W) (iota Kind.tc S1536x128 32 [1] iota_S1536x128_d1_w32) (k0_pay102 (F := Ideal) a x2) t (k0_pay103 a x1 W)

/-- The block's logits in lane `L` of quarter `q`, with the columns past the vocabulary at minus infinity. -/
def quarter (n : ℕ) (x1 : Vec Ideal S1536x2560 .bf16) (W : Vec Ideal S2560x512 .bf16) (p : Fin 1536) (q : Fin 4) (L : Fin 128) : EReal :=
  if 512 * n + 128 * q.val < 151936 then
    ∑ k : Fin 2560, (x1 (ix2 p k) : EReal) * (W (ix2 k ⟨128 * q.val + L.val, by have := q.isLt; have := L.isLt; omega⟩) : EReal)
  else ⊥

theorem negInf : Ideal.ofBits .f32 4286578688#32 = ⊥ := by
  simp [Ideal.ofBits, Ideal.ieee]

/-- The comparison that masks a quarter of the block: its first column lies below the vocabulary's size. -/
theorem mask_word (n : ℕ) (hn : n < 297) (q : ℕ) (hq : q < 4) :
    Scalar.cmpi CmpIPredicate.slt (Scalar.addi (Scalar.muli (BitVec.ofNat 32 n) 512#32) (BitVec.ofNat 32 (128 * q))) 151936#32
      = BitVec.ofBool (decide (512 * n + 128 * q < 151936)) := by
  have e : Scalar.addi (Scalar.muli (BitVec.ofNat 32 n) 512#32) (BitVec.ofNat 32 (128 * q)) = BitVec.ofNat 32 (512 * n + 128 * q) := by
    apply BitVec.eq_of_toNat_eq
    show (BitVec.ofNat 32 n * 512#32 + BitVec.ofNat 32 (128 * q)).toNat = _
    simp only [BitVec.toNat_add, BitVec.toNat_mul, BitVec.toNat_ofNat]
    omega
  rw [e]
  show BitVec.ofBool ((BitVec.ofNat 32 (512 * n + 128 * q)).slt 151936#32) = _
  congr 1
  rw [BitVec.slt_eq_decide]
  congr 1
  rw [BitVec.toInt_eq_toNat_of_lt (by simp only [BitVec.toNat_ofNat]; omega), BitVec.toInt_eq_toNat_of_lt (by decide)]
  simp only [BitVec.toNat_ofNat]
  apply propext
  omega

/-- A selection by a decided bit is the `if`. -/
theorem select_decide {α : Type} (P : Prop) [Decidable P] (a b : α) :
    Scalar.select (BitVec.ofBool (decide P)) a b = if P then a else b := by
  by_cases h : P
  · simp [h, Scalar.select]
  · simp [h, Scalar.select]

/-- Quarter 0 of the block's masked logits. -/
theorem pay103_at (n : ℕ) (hn : n < 297) (x1 : Vec Ideal S1536x2560 .bf16) (W : Vec Ideal S2560x512 .bf16) (p : Fin 1536) (L : Fin 128) :
    k0_pay103 (BitVec.ofNat 32 n) x1 W (ix2 p L) = quarter n x1 W p 0 L := by
  have h := mask_word n hn 0 (by omega)
  unfold k0_pay103 k0_pay101 quarter
  pointwise
  refine (congrArg (fun b => Scalar.select b _ _) h).trans ?_
  rw [select_decide, negInf]
  rfl

/-- Quarter 1 of the block's masked logits. -/
theorem pay104_at (n : ℕ) (hn : n < 297) (x1 : Vec Ideal S1536x2560 .bf16) (W : Vec Ideal S2560x512 .bf16) (p : Fin 1536) (L : Fin 128) :
    k0_pay104 (BitVec.ofNat 32 n) (k0_pay101 x1 W) (ix2 p L) = quarter n x1 W p 1 L := by
  have h := mask_word n hn 1 (by omega)
  unfold k0_pay104 k0_pay101 quarter
  pointwise
  refine (congrArg (fun b => Scalar.select b _ _) h).trans ?_
  rw [select_decide, negInf]

/-- Quarter 2 of the block's masked logits. -/
theorem pay105_at (n : ℕ) (hn : n < 297) (x1 : Vec Ideal S1536x2560 .bf16) (W : Vec Ideal S2560x512 .bf16) (p : Fin 1536) (L : Fin 128) :
    k0_pay105 (BitVec.ofNat 32 n) (k0_pay101 x1 W) (ix2 p L) = quarter n x1 W p 2 L := by
  have h := mask_word n hn 2 (by omega)
  unfold k0_pay105 k0_pay101 quarter
  pointwise
  refine (congrArg (fun b => Scalar.select b _ _) h).trans ?_
  rw [select_decide, negInf]

/-- Quarter 3 of the block's masked logits. -/
theorem pay106_at (n : ℕ) (hn : n < 297) (x1 : Vec Ideal S1536x2560 .bf16) (W : Vec Ideal S2560x512 .bf16) (p : Fin 1536) (L : Fin 128) :
    k0_pay106 (BitVec.ofNat 32 n) (k0_pay101 x1 W) (ix2 p L) = quarter n x1 W p 3 L := by
  have h := mask_word n hn 3 (by omega)
  unfold k0_pay106 k0_pay101 quarter
  pointwise
  refine (congrArg (fun b => Scalar.select b _ _) h).trans ?_
  rw [select_decide, negInf]

/-- One block's update of a lane's running maximum and sum, over the row's logits `x`. -/
theorem step_lane (n : ℕ) (hn : n < 297) (x1 : Vec Ideal S1536x2560 .bf16) (W : Vec Ideal S2560x512 .bf16)
    (m l : Vec Ideal S1536x128 .f32) (p : Fin 1536) (L : Fin 128) (x : ℕ → EReal)
    (hx : ∀ q : Fin 4, quarter n x1 W p q L = x (128 * (4 * n + q.val) + L.val))
    (hm : m (ix2 p L) = Cert.Lse.mx (fun q => x (128 * q + L.val)) (4 * n))
    (hl : l (ix2 p L) = Cert.Lse.se (fun q => x (128 * q + L.val)) (4 * n)) :
    stepM (BitVec.ofNat 32 n) x1 W m (ix2 p L) = Cert.Lse.mx (fun q => x (128 * q + L.val)) (4 * (n + 1)) ∧
    stepL (BitVec.ofNat 32 n) x1 W m l (ix2 p L) = Cert.Lse.se (fun q => x (128 * q + L.val)) (4 * (n + 1)) := by
  have e0 := (pay103_at n hn x1 W p L).trans (hx 0)
  have e1 := (pay104_at n hn x1 W p L).trans (hx 1)
  have e2 := (pay105_at n hn x1 W p L).trans (hx 2)
  have e3 := (pay106_at n hn x1 W p L).trans (hx 3)
  have h := Cert.Lse.block_four (fun q => x (128 * q + L.val)) n hm hl e0 e1 e2 e3
  unfold stepL stepM
  generalize k0_pay103 (BitVec.ofNat 32 n) x1 W = y0 at *
  generalize k0_pay101 x1 W = y at *
  refine ⟨Eq.trans ?_ h.1, Eq.trans ?_ h.2⟩
  · pointwise [k0_pay108]
  · pointwise [k0_pay109, k0_pay108]

/-- The comparison that finds the target in a quarter of the block. -/
theorem target_word (n : ℕ) (hn : n < 297) (q : ℕ) (hq : q < 4) (L : Fin 128) (T : ℕ) (hT : T < 151936) :
    IntOp.cmpi CmpIPredicate.eq (IntOp.addi (BitVec.ofNat 32 L.val) (BitVec.ofNat 32 (128 * q)))
        (IntOp.subi (BitVec.ofNat 32 T) (Scalar.muli (BitVec.ofNat 32 n) 512#32))
      = BitVec.ofBool (decide (T = 128 * (4 * n + q) + L.val)) := by
  have hL := L.isLt
  show BitVec.ofBool (decide (BitVec.ofNat 32 L.val + BitVec.ofNat 32 (128 * q) = BitVec.ofNat 32 T - BitVec.ofNat 32 n * 512#32)) = _
  congr 1
  congr 1
  apply propext
  rw [← BitVec.toNat_inj]
  simp only [BitVec.toNat_add, BitVec.toNat_sub, BitVec.toNat_mul, BitVec.toNat_ofNat]
  omega

/-- One block's update of a lane's target logit: the row's logit at the target once the target's block has been seen, in
    the target's lane, and zero otherwise. -/
theorem step_target (n : ℕ) (hn : n < 297) (x1 : Vec Ideal S1536x2560 .bf16) (x2 : Vec Ideal S1536x1 .i32)
    (W : Vec Ideal S2560x512 .bf16) (t : Vec Ideal S1536x128 .f32) (p : Fin 1536) (L : Fin 128) (x : ℕ → EReal) (T : ℕ) (hT : T < 151936)
    (hx : ∀ q : Fin 4, quarter n x1 W p q L = x (128 * (4 * n + q.val) + L.val))
    (h2 : x2 (ix2 p 0) = BitVec.ofNat 32 T)
    (ht : t (ix2 p L) = if T < 512 * n ∧ L.val = T % 128 then x T else 0) :
    stepT (BitVec.ofNat 32 n) x1 x2 W t (ix2 p L) = if T < 512 * (n + 1) ∧ L.val = T % 128 then x T else 0 := by
  have e0 := (pay103_at n hn x1 W p L).trans (hx 0)
  have e1 := (pay104_at n hn x1 W p L).trans (hx 1)
  have e2 := (pay105_at n hn x1 W p L).trans (hx 2)
  have e3 := (pay106_at n hn x1 W p L).trans (hx 3)
  have w0 := target_word n hn 0 (by omega) L T hT
  have w1 := target_word n hn 1 (by omega) L T hT
  have w2 := target_word n hn 2 (by omega) L T hT
  have w3 := target_word n hn 3 (by omega) L T hT
  unfold stepT
  generalize k0_pay103 (BitVec.ofNat 32 n) x1 W = y0 at *
  generalize k0_pay101 x1 W = y at *
  pointwise [k0_pay107, k0_pay102]
  rw [h2, e0, e1, e2, e3, ht]
  simp only [Nat.reduceMul] at w0 w1 w2 w3
  rw [w0, w1, w2, w3, select_decide, select_decide, select_decide, select_decide]
  have hL := L.isLt
  have k0 : ((0 : Fin 4) : ℕ) = 0 := rfl
  have k1 : ((1 : Fin 4) : ℕ) = 1 := rfl
  have k2 : ((2 : Fin 4) : ℕ) = 2 := rfl
  have k3 : ((3 : Fin 4) : ℕ) = 3 := rfl
  simp only [k0, k1, k2, k3]
  by_cases c3 : T = 128 * (4 * n + 3) + L.val
  · rw [if_pos c3, if_pos (by omega), c3]
  rw [if_neg c3]
  by_cases c2 : T = 128 * (4 * n + 2) + L.val
  · rw [if_pos c2, if_pos (by omega), c2]
  rw [if_neg c2]
  by_cases c1 : T = 128 * (4 * n + 1) + L.val
  · rw [if_pos c1, if_pos (by omega), c1]
  rw [if_neg c1]
  by_cases c0 : T = 128 * (4 * n + 0) + L.val
  · rw [if_pos c0, if_pos (by omega), c0]
  rw [if_neg c0]
  by_cases h : T < 512 * n ∧ L.val = T % 128
  · rw [if_pos h, if_pos ⟨by omega, h.2⟩]
  · rw [if_neg h, if_neg (by omega)]

/-- The closing expression of a row over its lanes: lane maxima and sums merge into the row's log-sum-exp, the lanes'
    target logits add up to the row's target logit. -/
theorem loss_at (t m l : FVec Ideal S1536x128 .f32) (p : Fin 1536) (x : ℕ → EReal) (T : ℕ) (hT : T < 151936)
    (hx : ∀ j, 151936 ≤ j → x j = ⊥)
    (hm : ∀ L : Fin 128, m (ix2 p L) = Cert.Lse.mx (fun q => x (128 * q + L.val)) 1188)
    (hl : ∀ L : Fin 128, l (ix2 p L) = Cert.Lse.se (fun q => x (128 * q + L.val)) 1188)
    (ht : ∀ L : Fin 128, t (ix2 p L) = if L.val = T % 128 then x T else 0) :
    k0_pay2 t m l (ix2 p 0)
      = ((Finset.univ.sup (fun j : Fin 151936 => x j.val)
          + Ideal.log (∑ j : Fin 151936, Ideal.exp (x j.val - Finset.univ.sup (fun j : Fin 151936 => x j.val))))
          - x T) - Ideal.ofBits .f32 1094641217#32 := by
  pointwise [k0_pay2]
  have eM : Finset.fold max (Ideal.ofBits FTy.f32 4286578688#32) (fun L => m (ix2 p L)) Finset.univ
      = (Finset.range 152064).sup x := by
    rw [negInf]
    refine Eq.trans ?_ (Cert.Lse.sup_lanes x)
    rw [show (fun L => m (ix2 p L)) = fun L : Fin 128 => Cert.Lse.mx (fun q => x (128 * q + L.val)) 1188 from funext hm]
    rfl
  rw [eM]
  simp only [hm, hl, ht]
  rw [Cert.Lse.sum_lanes_shift x rfl, Cert.Lse.sum_lane_target (x T) T, Cert.Lse.sup_tail x hx]
  rw [Cert.Lse.sum_tail x hx]

end Cert.KernelIdeal.Hand

end
-- ==== Proof.Exact.Cases.lean ====
/- What the three runs of the body leave in the running buffers and, at the last block, in the loss block: one step of the
   running maximum, sum and target logit over the dequantised weights. -/
module

public import proofs.«01_k».proof.Proof.Exact.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open scoped BigOperators

/-- A load of a whole buffer, through the rectangle that covers it, reads its contents. -/
theorem whole_read {sp : Space} {s : Shape} {e : EltTy} {M : Memref sig .tc sp s e} (h : M.IsWhole) {off : Fin s.rank → ℕ}
    (h0 : off = fun _ => 0) (inb : ∀ d, off d + s.size d ≤ s.size d) (X : s.Idx → Elt Ideal e) :
    View.readAt (Elt Ideal) M.view (Rect.unit off s.size inb).toLoadRect (h.unread X) = X := by
  subst h0
  funext x
  rw [h.readAt_unread]
  refine congrArg X (funext fun d => Fin.ext ?_)
  show 0 + 1 * (x d).val = (x d).val
  omega

/-- The origin of a matrix. -/
theorem zero2 : (![0, 0] : Fin 2 → ℕ) = fun _ => 0 := by
  funext d; match d with | ⟨0, _⟩ => rfl | ⟨1, _⟩ => rfl

/-- A splat of one word. -/
def resetM : FVec Ideal S1536x128 .f32 := k0_pay98
def resetL : FVec Ideal S1536x128 .f32 := k0_pay99
def resetT : FVec Ideal S1536x128 .f32 := k0_pay100

/-- At the first block the running maximum is read back as it was just reset. -/
theorem resetM_A (c : Dev nD) (arg8 : Memref sig .tc .vmem S1536x128 .f32) :
    kernelRun0_A.sl.v1051 (F := Ideal) c arg8 = resetM := by
  unfold kernelRun0_A.sl.v1051 kernelRun0_A.sl.HS1_1
  refine (View.readCov_unit_lit (S := S1536x128) _ inb_S1536x128_S1536x128_0_0 _ (fun d => congrFun zero2 d)).trans ?_
  rfl

/-- At the first block the running sum is read back as it was just reset. -/
theorem resetL_A (c : Dev nD) (arg9 : Memref sig .tc .vmem S1536x128 .f32) :
    kernelRun0_A.sl.v1101 (F := Ideal) c arg9 = resetL := by
  unfold kernelRun0_A.sl.v1101 kernelRun0_A.sl.HS2_1
  refine (View.readCov_unit_lit (S := S1536x128) _ inb_S1536x128_S1536x128_0_0 _ (fun d => congrFun zero2 d)).trans ?_
  rfl

/-- At the first block the running target logit is read back as it was just reset. -/
theorem resetT_A (c : Dev nD) (arg10 : Memref sig .tc .vmem S1536x128 .f32) :
    kernelRun0_A.sl.v1052 (F := Ideal) c arg10 = resetT := by
  unfold kernelRun0_A.sl.v1052 kernelRun0_A.sl.HS3_1
  refine (View.readCov_unit_lit (S := S1536x128) _ inb_S1536x128_S1536x128_0_0 _ (fun d => congrFun zero2 d)).trans ?_
  rfl

/-- What case A leaves of the running maximum. -/
theorem caseA_m (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : cond0_0 i) (hc1 : ¬cond0_1 i)
    (x0 : Vec Ideal S20x1187 .f32) (x1 : Vec Ideal S1536x2560 .bf16) (x2 : Vec Ideal S1536x1 .i32) (x3 : Vec Ideal S2560x512 .fp8e4m3) :
    View.canon (kernelRun0_A (F := Ideal) c i arg2 harg2 arg3 harg3 arg4 harg4 arg5 harg5 arg6 harg6 arg7 harg7 arg8 harg8 arg9 harg9 arg10 harg10 hc0 hc1 x0 x1 x2 x3).2.1 = stepM (BitVec.ofNat 32 (i 1).val) x1 (Wt i x0 x3) resetM := by
  refine (View.canon_cons_unit_lit (S := S1536x128) inb_S1536x128_S1536x128_0_0 _ _ (fun d => congrFun zero2 d)).trans ?_
  unfold k0_pay110 stepM
  refine (shapeCast_self (s := S1536x128) _ _).trans ?_
  unfold kernelRun0_A.sl.r_105 kernelRun0_A.sl.r_100 kernelRun0_A.sl.r_98
  simp only [weights_A, resetM_A, whole_read harg3 zero2, whole_read harg4 zero2, whole_read harg8 zero2, whole_read harg9 zero2, whole_read harg10 zero2]

/-- What case A leaves of the running sum. -/
theorem caseA_l (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : cond0_0 i) (hc1 : ¬cond0_1 i)
    (x0 : Vec Ideal S20x1187 .f32) (x1 : Vec Ideal S1536x2560 .bf16) (x2 : Vec Ideal S1536x1 .i32) (x3 : Vec Ideal S2560x512 .fp8e4m3) :
    View.canon (kernelRun0_A (F := Ideal) c i arg2 harg2 arg3 harg3 arg4 harg4 arg5 harg5 arg6 harg6 arg7 harg7 arg8 harg8 arg9 harg9 arg10 harg10 hc0 hc1 x0 x1 x2 x3).2.2.1 = stepL (BitVec.ofNat 32 (i 1).val) x1 (Wt i x0 x3) resetM resetL := by
  refine (View.canon_cons_unit_lit (S := S1536x128) inb_S1536x128_S1536x128_0_0 _ _ (fun d => congrFun zero2 d)).trans ?_
  unfold k0_pay111 stepL stepM
  unfold kernelRun0_A.sl.r_105 kernelRun0_A.sl.r_103 kernelRun0_A.sl.r_102 kernelRun0_A.sl.r_101 kernelRun0_A.sl.r_100 kernelRun0_A.sl.r_98
  simp only [weights_A, resetM_A, resetL_A, whole_read harg3 zero2, whole_read harg4 zero2, whole_read harg8 zero2, whole_read harg9 zero2, whole_read harg10 zero2]
  exact shapeCast_self (s := S1536x128) _ _

/-- What case A leaves of the target logit. -/
theorem caseA_t (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : cond0_0 i) (hc1 : ¬cond0_1 i)
    (x0 : Vec Ideal S20x1187 .f32) (x1 : Vec Ideal S1536x2560 .bf16) (x2 : Vec Ideal S1536x1 .i32) (x3 : Vec Ideal S2560x512 .fp8e4m3) :
    View.canon (kernelRun0_A (F := Ideal) c i arg2 harg2 arg3 harg3 arg4 harg4 arg5 harg5 arg6 harg6 arg7 harg7 arg8 harg8 arg9 harg9 arg10 harg10 hc0 hc1 x0 x1 x2 x3).2.2.2.1 = stepT (BitVec.ofNat 32 (i 1).val) x1 x2 (Wt i x0 x3) resetT := by
  refine (View.canon_cons_unit_lit (S := S1536x128) inb_S1536x128_S1536x128_0_0 _ _ (fun d => congrFun zero2 d)).trans ?_
  unfold k0_pay1 stepT
  refine (shapeCast_self (s := S1536x128) _ _).trans ?_
  unfold kernelRun0_A.sl.r_104 kernelRun0_A.sl.r_100 kernelRun0_A.sl.r_99 kernelRun0_A.sl.r_98 kernelRun0_A.sl.v1046
  simp only [weights_A, resetT_A, whole_read harg3 zero2, whole_read harg4 zero2, whole_read harg8 zero2, whole_read harg9 zero2, whole_read harg10 zero2]

/-- What case B leaves of the running maximum. -/
theorem caseB_m (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : ¬cond0_1 i)
    (x0 : Vec Ideal S20x1187 .f32) (x1 : Vec Ideal S1536x2560 .bf16) (x2 : Vec Ideal S1536x1 .i32) (x3 : Vec Ideal S2560x512 .fp8e4m3) (xs1 : Vec Ideal S1536x128 .f32) (xs2 : Vec Ideal S1536x128 .f32) (xs3 : Vec Ideal S1536x128 .f32) :
    View.canon (kernelRun0_B (F := Ideal) c i arg2 harg2 arg3 harg3 arg4 harg4 arg5 harg5 arg6 harg6 arg7 harg7 arg8 harg8 arg9 harg9 arg10 harg10 hc0 hc1 x0 x1 x2 x3 xs1 xs2 xs3).2.1 = stepM (BitVec.ofNat 32 (i 1).val) x1 (Wt i x0 x3) xs1 := by
  refine (View.canon_cons_unit_lit (S := S1536x128) inb_S1536x128_S1536x128_0_0 _ _ (fun d => congrFun zero2 d)).trans ?_
  unfold k0_pay110 stepM
  refine (shapeCast_self (s := S1536x128) _ _).trans ?_
  unfold kernelRun0_B.sl.r_107 kernelRun0_B.sl.r_102 kernelRun0_B.sl.r_100 kernelRun0_B.sl.r_98
  simp only [weights_B, whole_read harg3 zero2, whole_read harg4 zero2, whole_read harg8 zero2, whole_read harg9 zero2, whole_read harg10 zero2]

/-- What case B leaves of the running sum. -/
theorem caseB_l (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : ¬cond0_1 i)
    (x0 : Vec Ideal S20x1187 .f32) (x1 : Vec Ideal S1536x2560 .bf16) (x2 : Vec Ideal S1536x1 .i32) (x3 : Vec Ideal S2560x512 .fp8e4m3) (xs1 : Vec Ideal S1536x128 .f32) (xs2 : Vec Ideal S1536x128 .f32) (xs3 : Vec Ideal S1536x128 .f32) :
    View.canon (kernelRun0_B (F := Ideal) c i arg2 harg2 arg3 harg3 arg4 harg4 arg5 harg5 arg6 harg6 arg7 harg7 arg8 harg8 arg9 harg9 arg10 harg10 hc0 hc1 x0 x1 x2 x3 xs1 xs2 xs3).2.2.1 = stepL (BitVec.ofNat 32 (i 1).val) x1 (Wt i x0 x3) xs1 xs2 := by
  refine (View.canon_cons_unit_lit (S := S1536x128) inb_S1536x128_S1536x128_0_0 _ _ (fun d => congrFun zero2 d)).trans ?_
  unfold k0_pay111 stepL stepM
  unfold kernelRun0_B.sl.r_107 kernelRun0_B.sl.r_105 kernelRun0_B.sl.r_104 kernelRun0_B.sl.r_103 kernelRun0_B.sl.r_102 kernelRun0_B.sl.r_100 kernelRun0_B.sl.r_98
  simp only [weights_B, whole_read harg3 zero2, whole_read harg4 zero2, whole_read harg8 zero2, whole_read harg9 zero2, whole_read harg10 zero2]
  exact shapeCast_self (s := S1536x128) _ _

/-- What case B leaves of the target logit. -/
theorem caseB_t (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : ¬cond0_1 i)
    (x0 : Vec Ideal S20x1187 .f32) (x1 : Vec Ideal S1536x2560 .bf16) (x2 : Vec Ideal S1536x1 .i32) (x3 : Vec Ideal S2560x512 .fp8e4m3) (xs1 : Vec Ideal S1536x128 .f32) (xs2 : Vec Ideal S1536x128 .f32) (xs3 : Vec Ideal S1536x128 .f32) :
    View.canon (kernelRun0_B (F := Ideal) c i arg2 harg2 arg3 harg3 arg4 harg4 arg5 harg5 arg6 harg6 arg7 harg7 arg8 harg8 arg9 harg9 arg10 harg10 hc0 hc1 x0 x1 x2 x3 xs1 xs2 xs3).2.2.2.1 = stepT (BitVec.ofNat 32 (i 1).val) x1 x2 (Wt i x0 x3) xs3 := by
  refine (View.canon_cons_unit_lit (S := S1536x128) inb_S1536x128_S1536x128_0_0 _ _ (fun d => congrFun zero2 d)).trans ?_
  unfold k0_pay1 stepT
  refine (shapeCast_self (s := S1536x128) _ _).trans ?_
  unfold kernelRun0_B.sl.r_106 kernelRun0_B.sl.r_102 kernelRun0_B.sl.r_101 kernelRun0_B.sl.r_99 kernelRun0_B.sl.r_98 kernelRun0_B.sl.v1046
  simp only [weights_B, whole_read harg3 zero2, whole_read harg4 zero2, whole_read harg8 zero2, whole_read harg9 zero2, whole_read harg10 zero2]

/-- What case C leaves of the running maximum. -/
theorem caseC_m (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : cond0_1 i)
    (x0 : Vec Ideal S20x1187 .f32) (x1 : Vec Ideal S1536x2560 .bf16) (x2 : Vec Ideal S1536x1 .i32) (x3 : Vec Ideal S2560x512 .fp8e4m3) (xs1 : Vec Ideal S1536x128 .f32) (xs2 : Vec Ideal S1536x128 .f32) (xs3 : Vec Ideal S1536x128 .f32) :
    View.canon (kernelRun0_C (F := Ideal) c i arg2 harg2 arg3 harg3 arg4 harg4 arg5 harg5 arg6 harg6 arg7 harg7 arg8 harg8 arg9 harg9 arg10 harg10 hc0 hc1 x0 x1 x2 x3 xs1 xs2 xs3).2.1 = stepM (BitVec.ofNat 32 (i 1).val) x1 (Wt i x0 x3) xs1 := by
  refine (View.canon_cons_unit_lit (S := S1536x128) inb_S1536x128_S1536x128_0_0 _ _ (fun d => congrFun zero2 d)).trans ?_
  unfold k0_pay110 stepM
  refine (shapeCast_self (s := S1536x128) _ _).trans ?_
  unfold kernelRun0_C.sl.r_107 kernelRun0_C.sl.r_102 kernelRun0_C.sl.r_100 kernelRun0_C.sl.r_98
  simp only [weights_C, whole_read harg3 zero2, whole_read harg4 zero2, whole_read harg8 zero2, whole_read harg9 zero2, whole_read harg10 zero2]

/-- What case C leaves of the running sum. -/
theorem caseC_l (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : cond0_1 i)
    (x0 : Vec Ideal S20x1187 .f32) (x1 : Vec Ideal S1536x2560 .bf16) (x2 : Vec Ideal S1536x1 .i32) (x3 : Vec Ideal S2560x512 .fp8e4m3) (xs1 : Vec Ideal S1536x128 .f32) (xs2 : Vec Ideal S1536x128 .f32) (xs3 : Vec Ideal S1536x128 .f32) :
    View.canon (kernelRun0_C (F := Ideal) c i arg2 harg2 arg3 harg3 arg4 harg4 arg5 harg5 arg6 harg6 arg7 harg7 arg8 harg8 arg9 harg9 arg10 harg10 hc0 hc1 x0 x1 x2 x3 xs1 xs2 xs3).2.2.1 = stepL (BitVec.ofNat 32 (i 1).val) x1 (Wt i x0 x3) xs1 xs2 := by
  refine (View.canon_cons_unit_lit (S := S1536x128) inb_S1536x128_S1536x128_0_0 _ _ (fun d => congrFun zero2 d)).trans ?_
  unfold k0_pay111 stepL stepM
  unfold kernelRun0_C.sl.r_107 kernelRun0_C.sl.r_105 kernelRun0_C.sl.r_104 kernelRun0_C.sl.r_103 kernelRun0_C.sl.r_102 kernelRun0_C.sl.r_100 kernelRun0_C.sl.r_98
  simp only [weights_C, whole_read harg3 zero2, whole_read harg4 zero2, whole_read harg8 zero2, whole_read harg9 zero2, whole_read harg10 zero2]
  exact shapeCast_self (s := S1536x128) _ _

/-- What case C leaves of the target logit. -/
theorem caseC_t (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : cond0_1 i)
    (x0 : Vec Ideal S20x1187 .f32) (x1 : Vec Ideal S1536x2560 .bf16) (x2 : Vec Ideal S1536x1 .i32) (x3 : Vec Ideal S2560x512 .fp8e4m3) (xs1 : Vec Ideal S1536x128 .f32) (xs2 : Vec Ideal S1536x128 .f32) (xs3 : Vec Ideal S1536x128 .f32) :
    View.canon (kernelRun0_C (F := Ideal) c i arg2 harg2 arg3 harg3 arg4 harg4 arg5 harg5 arg6 harg6 arg7 harg7 arg8 harg8 arg9 harg9 arg10 harg10 hc0 hc1 x0 x1 x2 x3 xs1 xs2 xs3).2.2.2.1 = stepT (BitVec.ofNat 32 (i 1).val) x1 x2 (Wt i x0 x3) xs3 := by
  refine (View.canon_cons_unit_lit (S := S1536x128) inb_S1536x128_S1536x128_0_0 _ _ (fun d => congrFun zero2 d)).trans ?_
  unfold k0_pay1 stepT
  refine (shapeCast_self (s := S1536x128) _ _).trans ?_
  unfold kernelRun0_C.sl.r_106 kernelRun0_C.sl.r_102 kernelRun0_C.sl.r_101 kernelRun0_C.sl.r_99 kernelRun0_C.sl.r_98 kernelRun0_C.sl.v1046
  simp only [weights_C, whole_read harg3 zero2, whole_read harg4 zero2, whole_read harg8 zero2, whole_read harg9 zero2, whole_read harg10 zero2]

/-- What the last block leaves in the loss block. -/
theorem caseC_loss (c : Dev nD) (i : grid0.Coords) (arg2 : Memref sig .tc .smem S20x1187 .f32) (harg2 : arg2.IsWhole) (arg3 : Memref sig .tc .vmem S1536x2560 .bf16) (harg3 : arg3.IsWhole) (arg4 : Memref sig .tc .vmem S1536x1 .i32) (harg4 : arg4.IsWhole) (arg5 : Memref sig .tc .vmem S2560x512 .fp8e4m3) (harg5 : arg5.IsWhole) (arg6 : Memref sig .tc .vmem S1536x1 .f32) (harg6 : arg6.IsWhole) (arg7 : Memref sig .tc .vmem S2560x512 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1536x128 .f32) (harg10 : arg10.IsWhole) (hc0 : ¬cond0_0 i) (hc1 : cond0_1 i)
    (x0 : Vec Ideal S20x1187 .f32) (x1 : Vec Ideal S1536x2560 .bf16) (x2 : Vec Ideal S1536x1 .i32) (x3 : Vec Ideal S2560x512 .fp8e4m3) (xs1 : Vec Ideal S1536x128 .f32) (xs2 : Vec Ideal S1536x128 .f32) (xs3 : Vec Ideal S1536x128 .f32) :
    View.canon (kernelRun0_C (F := Ideal) c i arg2 harg2 arg3 harg3 arg4 harg4 arg5 harg5 arg6 harg6 arg7 harg7 arg8 harg8 arg9 harg9 arg10 harg10 hc0 hc1 x0 x1 x2 x3 xs1 xs2 xs3).1 = k0_pay2 (stepT (BitVec.ofNat 32 (i 1).val) x1 x2 (Wt i x0 x3) xs3) (stepM (BitVec.ofNat 32 (i 1).val) x1 (Wt i x0 x3) xs1) (stepL (BitVec.ofNat 32 (i 1).val) x1 (Wt i x0 x3) xs1 xs2) := by
  refine (View.canon_cons_unit_lit (S := S1536x1) inb_S1536x1_S1536x1_0_0 _ _ (fun d => congrFun zero2 d)).trans ?_
  unfold stepT stepL stepM
  unfold kernelRun0_C.sl.r_108 kernelRun0_C.sl.r_107 kernelRun0_C.sl.r_106 kernelRun0_C.sl.r_105 kernelRun0_C.sl.r_104 kernelRun0_C.sl.r_103 kernelRun0_C.sl.r_102 kernelRun0_C.sl.r_101 kernelRun0_C.sl.r_100 kernelRun0_C.sl.r_99 kernelRun0_C.sl.r_98 kernelRun0_C.sl.v1046
  simp only [weights_C, whole_read harg3 zero2, whole_read harg4 zero2, whole_read harg8 zero2, whole_read harg9 zero2, whole_read harg10 zero2]

end Cert.KernelIdeal.Hand

end
-- ==== Proof.Exact.Logits.lean ====
/- The rows' logits and losses over the launch's arguments, and what the pipeline's blocks are of them. -/
module

public import proofs.«01_k».proof.Proof.Exact.Cases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open scoped BigOperators

/-- The logit of row `r` at column `j`: the row against the column of dequantised codes; minus infinity past the vocabulary. -/
def logit (yd : Vec Ideal S15360x2560 .bf16) (cd : Vec Ideal S2560x151936 .fp8e4m3) (sc : Vec Ideal S20x1187 .f32)
    (r : Fin 15360) (j : ℕ) : EReal :=
  if h : j < 151936 then
    ∑ k : Fin 2560, (yd (ix2 r k) : EReal) * ((cd (ix2 k ⟨j, h⟩) : EReal)
      * (sc (ix2 ⟨k.val / 128, by omega⟩ ⟨j / 128, by omega⟩) : EReal))
  else ⊥

/-- Past the vocabulary the logit is minus infinity. -/
theorem logit_tail (yd : Vec Ideal S15360x2560 .bf16) (cd : Vec Ideal S2560x151936 .fp8e4m3) (sc : Vec Ideal S20x1187 .f32)
    (r : Fin 15360) (j : ℕ) (h : 151936 ≤ j) : logit yd cd sc r j = ⊥ := by
  unfold logit; exact dif_neg (by omega)

/-- The loss of row `r`: the log of the sum of the exponentials of its logits, by way of their maximum, less the logit at
    the target, less the constant. -/
def lossOf (yd : Vec Ideal S15360x2560 .bf16) (tg : Vec Ideal S15360x1 .i32) (cd : Vec Ideal S2560x151936 .fp8e4m3)
    (sc : Vec Ideal S20x1187 .f32) (r : Fin 15360) : EReal :=
  ((Finset.univ.sup (fun j : Fin 151936 => logit yd cd sc r j.val)
      + Ideal.log (∑ j : Fin 151936, Ideal.exp (logit yd cd sc r j.val
          - Finset.univ.sup (fun j : Fin 151936 => logit yd cd sc r j.val))))
    - logit yd cd sc r (tg (ix2 r 0) : BitVec 32).toNat) - Ideal.ofBits .f32 1094641217#32

variable (m : (ℓ : Loc nD τ sig) → Buf (Elt Ideal) ℓ)

/-- The launch's arguments, as arrays. -/
abbrev YD (c : Dev nD) : Vec Ideal S15360x2560 .bf16 := m ((c : Thread nD τ).loc main_arg0)
abbrev TG (c : Dev nD) : Vec Ideal S15360x1 .i32 := m ((c : Thread nD τ).loc main_arg1)
abbrev CD (c : Dev nD) : Vec Ideal S2560x151936 .fp8e4m3 := m ((c : Thread nD τ).loc main_arg2)
abbrev SC (c : Dev nD) : Vec Ideal S20x1187 .f32 := m ((c : Thread nD τ).loc main_arg3)

/-- The array row that row `p` of the block at point `n` is. -/
def rowAt (n : ℕ) (p : Fin 1536) : Fin 15360 := ⟨(1536 * (n / 297) + p.val) % 15360, by omega⟩

theorem coord0 (t : Fin cfg0.N) : (grid0.coords t 0).val = t.val / 297 := by
  have ht : t.val < 2970 := Nat.lt_of_lt_of_eq t.isLt N_0
  have e0 : (grid0.coords t 0).val = t.val / 297 % 10 := Pipeline.Grid.coords_val t 0 (by decide) rfl
  omega
theorem coord1 (t : Fin cfg0.N) : (grid0.coords t 1).val = t.val % 297 := by
  have e1 : (grid0.coords t 1).val = t.val / 1 % 297 := Pipeline.Grid.coords_val t 1 (by decide) rfl
  omega

theorem index1_0 (t : Fin cfg0.N) : win0_1.index t (0 : Fin 2) = t.val / 297 := by
  have ht : t.val < 2970 := Nat.lt_of_lt_of_eq t.isLt N_0
  show (BitVec.ofNat 32 (grid0.coords t 0).val).toNat = _
  rw [coord0, BitVec.toNat_ofNat]; omega
theorem index2_0 (t : Fin cfg0.N) : win0_2.index t (0 : Fin 2) = t.val / 297 := index1_0 t
theorem index4_0 (t : Fin cfg0.N) : win0_4.index t (0 : Fin 2) = t.val / 297 := index1_0 t
theorem index3_1 (t : Fin cfg0.N) : win0_3.index t (1 : Fin 2) = t.val % 297 := by
  show (BitVec.ofNat 32 (grid0.coords t 1).val).toNat = _
  rw [coord1, BitVec.toNat_ofNat]; omega

/-- The scale table's block is the table. -/
theorem blk0_at (c : Dev nD) (t : Fin cfg0.N) (a : Fin 20) (b : Fin 1187) :
    (iblk m c 0 t : Vec Ideal S20x1187 .f32) (ix2 a b) = SC m c (ix2 a b) := by
  show SC m c (((cfg0.win 0).blk t).view.emb (ix2 a b)) = _
  refine congrArg (SC m c) (funext fun d => Fin.ext ?_)
  match d with
  | ⟨0, _⟩ => show 0 * 20 + 1 * a.val = a.val; omega
  | ⟨1, _⟩ => show 0 * 1187 + 1 * b.val = b.val; omega

/-- Row `p` of a block of the rows. -/
theorem blk1_at (c : Dev nD) (t : Fin cfg0.N) (p : Fin 1536) (k : Fin 2560) :
    (iblk m c 1 t : Vec Ideal S1536x2560 .bf16) (ix2 p k) = YD m c (ix2 (rowAt t.val p) k) := by
  have ht : t.val < 2970 := Nat.lt_of_lt_of_eq t.isLt N_0
  show YD m c (((cfg0.win 1).blk t).view.emb (ix2 p k)) = _
  refine congrArg (YD m c) (funext fun d => Fin.ext ?_)
  match d with
  | ⟨0, _⟩ =>
    show win0_1.index t (0 : Fin 2) * 1536 + 1 * p.val = (1536 * (t.val / 297) + p.val) % 15360
    rw [index1_0]; omega
  | ⟨1, _⟩ => show 0 * 2560 + 1 * k.val = k.val; omega

/-- Row `p` of a block of the targets. -/
theorem blk2_at (c : Dev nD) (t : Fin cfg0.N) (p : Fin 1536) :
    (iblk m c 2 t : Vec Ideal S1536x1 .i32) (ix2 p 0) = TG m c (ix2 (rowAt t.val p) 0) := by
  have ht : t.val < 2970 := Nat.lt_of_lt_of_eq t.isLt N_0
  show TG m c (((cfg0.win 2).blk t).view.emb (ix2 p 0)) = _
  refine congrArg (TG m c) (funext fun d => Fin.ext ?_)
  match d with
  | ⟨0, _⟩ =>
    show win0_2.index t (0 : Fin 2) * 1536 + 1 * p.val = (1536 * (t.val / 297) + p.val) % 15360
    rw [index2_0]; omega
  | ⟨1, _⟩ => rfl

/-- A place of a block that lies inside the array is in the part a transfer of the block moves. -/
theorem lt_extent_of {ix k d j : ℕ} (h : ix * k + j < d) (hj : j < k) : j < (Pipeline.Clip.of ix k d).extent k := by
  unfold Pipeline.Clip.of
  split
  · exact hj
  · show j < d - ix * k
    omega

/-- A column of the codes' buffer that lies inside the vocabulary holds that column of the codes, whatever the buffer held
    past the array's end. -/
theorem blk3_at (c : Dev nD) (t : Fin cfg0.N) (d : S2560x512.Idx → Elt Ideal .fp8e4m3) (k : Fin 2560) (l : Fin 512)
    (h : 512 * (t.val % 297) + l.val < 151936) :
    (win0_3.fill (grid0.coords t) d (iblk m c 3 t) : Vec Ideal S2560x512 .fp8e4m3) (ix2 k l)
      = CD m c (ix2 k ⟨512 * (t.val % 297) + l.val, h⟩) := by
  have hx : ∀ a : Fin 2, ((ix2 k l : S2560x512.Idx) a).val < win0_3.xsize (grid0.coords t) a := by
    have hi := index3_1 t
    intro a
    match a with
    | ⟨0, _⟩ =>
      have hk := k.isLt
      exact lt_extent_of (ix := 0) (k := 2560) (d := 2560) (j := k.val) (by omega) hk
    | ⟨1, _⟩ =>
      exact lt_extent_of (ix := win0_3.index t (1 : Fin 2)) (k := 512) (d := 151936) (j := l.val) (by rw [hi]; omega) l.isLt
  have hj : (ix2 k l : S2560x512.Idx) = win0_3.xinj (grid0.coords t) (fun a => ⟨((ix2 k l : S2560x512.Idx) a).val, hx a⟩) := rfl
  rw [hj, Window.fill_xinj]
  show CD m c (((cfg0.win 3).blk t).view.emb _) = _
  refine congrArg (CD m c) (funext fun d => Fin.ext ?_)
  match d with
  | ⟨0, _⟩ => show 0 * 2560 + 1 * k.val = k.val; omega
  | ⟨1, _⟩ =>
    show win0_3.index t (1 : Fin 2) * 512 + 1 * l.val = 512 * (t.val % 297) + l.val
    rw [index3_1]; omega

/-- A quarter of a block's masked logits, over the blocks as staged, is the row's logits there. -/
theorem quarter_eq (c : Dev nD) (t : Fin cfg0.N) (d : S2560x512.Idx → Elt Ideal .fp8e4m3) (p : Fin 1536) (q : Fin 4) (L : Fin 128) :
    quarter (t.val % 297) (iblk m c 1 t) (Wt (grid0.coords t) (iblk m c 0 t) (win0_3.fill (grid0.coords t) d (iblk m c 3 t))) p q L
      = logit (YD m c) (CD m c) (SC m c) (rowAt t.val p) (128 * (4 * (t.val % 297) + q.val) + L.val) := by
  have hq := q.isLt
  have hL := L.isLt
  unfold quarter logit
  by_cases h : 512 * (t.val % 297) + 128 * q.val < 151936
  · rw [if_pos h, dif_pos (by omega)]
    refine Finset.sum_congr rfl fun k _ => ?_
    have hk := k.isLt
    rw [blk1_at]
    refine congrArg (fun z : EReal => (YD m c (ix2 (rowAt t.val p) k) : EReal) * z) ?_
    unfold Wt
    refine congrArg₂ (fun a b : EReal => a * b) ?_ ?_
    · refine (blk3_at m c t d k ⟨128 * q.val + L.val, by omega⟩ (by show 512 * (t.val % 297) + (128 * q.val + L.val) < 151936; omega)).trans ?_
      refine congrArg (CD m c) (funext fun a => Fin.ext ?_)
      match a with
      | ⟨0, _⟩ => rfl
      | ⟨1, _⟩ => show 512 * (t.val % 297) + (128 * q.val + L.val) = 128 * (4 * (t.val % 297) + q.val) + L.val; omega
    · refine (blk0_at m c t _ _).trans ?_
      refine congrArg (SC m c) (funext fun a => Fin.ext ?_)
      match a with
      | ⟨0, _⟩ => rfl
      | ⟨1, _⟩ =>
        show min (4 * (grid0.coords t 1).val + (128 * q.val + L.val) / 128) 1186 = (128 * (4 * (t.val % 297) + q.val) + L.val) / 128
        rw [coord1]; omega
  · rw [if_neg h, dif_neg (by omega)]

end Cert.KernelIdeal.Hand

end
-- ==== Proof.Exact.Value.lean ====
/- The run of the head kernel read in the ideal values: the running buffers point by point, and the loss array at the end. -/
module

public import proofs.«01_k».proof.Proof.Exact.Logits

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Idealize.ShloMosaic.Ideal) ℕ (UR sig nD τ) ℕ

open scoped BigOperators

variable (m : (ℓ : Loc nD τ sig) → Buf (Elt Ideal) ℓ) (ρ : Dev nD → PrngReg)

/-! ## The running state in closed form -/

/-- The running buffers once `k` vocabulary blocks have been seen, for the row block of point `n`: each lane's maximum and
    sum of exponentials over its columns so far, and the target's logit in the target's lane if its block has been seen. -/
def State (c : Dev nD) (n k : ℕ) (d1 d2 d3 : Vec Ideal S1536x128 .f32) : Prop :=
  ∀ (p : Fin 1536) (L : Fin 128),
    d1 (ix2 p L) = Cert.Lse.mx (fun q => logit (YD m c) (CD m c) (SC m c) (rowAt n p) (128 * q + L.val)) (4 * k)
    ∧ d2 (ix2 p L) = Cert.Lse.se (fun q => logit (YD m c) (CD m c) (SC m c) (rowAt n p) (128 * q + L.val)) (4 * k)
    ∧ d3 (ix2 p L) = if (TG m c (ix2 (rowAt n p) 0) : BitVec 32).toNat < 512 * k ∧ L.val = (TG m c (ix2 (rowAt n p) 0) : BitVec 32).toNat % 128
        then logit (YD m c) (CD m c) (SC m c) (rowAt n p) (TG m c (ix2 (rowAt n p) 0) : BitVec 32).toNat else 0

/-- The targets are columns of the vocabulary. -/
def InVocab : Prop := ∀ (c : Dev nD) (r : Fin 15360), (TG m c (ix2 r 0) : BitVec 32).toNat < 151936

/-- The reset buffers are the state before the first block. -/
theorem state_reset (c : Dev nD) (n : ℕ) : State m c n 0 resetM resetL resetT := by
  intro p L
  refine ⟨?_, ?_, ?_⟩
  · refine Eq.trans ?_ (Cert.Lse.mx_zero _).symm
    refine Eq.trans ?_ negInf
    unfold resetM; pointwise [k0_pay98]
  · refine Eq.trans ?_ (Cert.Lse.se_zero _).symm
    unfold resetL; pointwise [k0_pay99]
  · rw [if_neg (by omega)]
    unfold resetT; pointwise [k0_pay100]

/-- One body takes the state one block further. -/
theorem state_step (hV : InVocab m) (c : Dev nD) (t : Fin cfg0.N) (d : S2560x512.Idx → Elt Ideal .fp8e4m3)
    (d1 d2 d3 : Vec Ideal S1536x128 .f32) (h : State m c t.val (t.val % 297) d1 d2 d3) :
    State m c t.val (t.val % 297 + 1) (stepM (BitVec.ofNat 32 (grid0.coords t 1).val) (iblk m c 1 t) (Wt (grid0.coords t) (iblk m c 0 t) (win0_3.fill (grid0.coords t) d (iblk m c 3 t))) d1)
      (stepL (BitVec.ofNat 32 (grid0.coords t 1).val) (iblk m c 1 t) (Wt (grid0.coords t) (iblk m c 0 t) (win0_3.fill (grid0.coords t) d (iblk m c 3 t))) d1 d2)
      (stepT (BitVec.ofNat 32 (grid0.coords t 1).val) (iblk m c 1 t) (iblk m c 2 t) (Wt (grid0.coords t) (iblk m c 0 t) (win0_3.fill (grid0.coords t) d (iblk m c 3 t))) d3) := by
  intro p L
  obtain ⟨h1, h2, h3⟩ := h p L
  rw [coord1 t]
  have hl := step_lane (t.val % 297) (by omega) (iblk m c 1 t) (Wt (grid0.coords t) (iblk m c 0 t) (win0_3.fill (grid0.coords t) d (iblk m c 3 t))) d1 d2 p L
    (logit (YD m c) (CD m c) (SC m c) (rowAt t.val p)) (fun q => quarter_eq m c t d p q L) h1 h2
  have ht := step_target (t.val % 297) (by omega) (iblk m c 1 t) (iblk m c 2 t) (Wt (grid0.coords t) (iblk m c 0 t) (win0_3.fill (grid0.coords t) d (iblk m c 3 t))) d3 p L
    (logit (YD m c) (CD m c) (SC m c) (rowAt t.val p)) (TG m c (ix2 (rowAt t.val p) 0) : BitVec 32).toNat (hV c _)
    (fun q => quarter_eq m c t d p q L) ((blk2_at m c t p).trans ((BitVec.ofNat_toNat _ _).trans (BitVec.setWidth_eq _)).symm) h3
  exact ⟨hl.1, hl.2, ht⟩

/-- The loss block after the last vocabulary block. -/
def lossBlk (c : Dev nD) (n : ℕ) : Vec Ideal S1536x1 .f32 := fun y =>
  lossOf (YD m c) (TG m c) (CD m c) (SC m c) (rowAt n ⟨(y 0).val, (y 0).isLt⟩)

/-- From the state after the last block the closing expression gives the rows' losses. -/
theorem state_loss (hV : InVocab m) (c : Dev nD) (n : ℕ) (d1 d2 d3 : FVec Ideal S1536x128 .f32) (h : State m c n 297 d1 d2 d3) :
    k0_pay2 d3 d1 d2 = lossBlk m c n := by
  funext y
  have hy : y = ix2 ⟨(y 0).val, (y 0).isLt⟩ 0 := by
    funext a; apply Fin.ext
    match a with
    | ⟨0, _⟩ => rfl
    | ⟨1, _⟩ => have h1 : (y 1).val < 1 := (y 1).isLt; show (y 1).val = 0; omega
  rw [hy]
  refine (loss_at d3 d1 d2 ⟨(y 0).val, (y 0).isLt⟩ (logit (YD m c) (CD m c) (SC m c) (rowAt n ⟨(y 0).val, (y 0).isLt⟩))
    (TG m c (ix2 (rowAt n ⟨(y 0).val, (y 0).isLt⟩) 0) : BitVec 32).toNat (hV c _) (logit_tail _ _ _ _)
    (fun L => (h _ L).1) (fun L => (h _ L).2.1) (fun L => ?_)).trans ?_
  · refine (h _ L).2.2.trans ?_
    have hT := hV c (rowAt n ⟨(y 0).val, (y 0).isLt⟩)
    by_cases hc : L.val = (TG m c (ix2 (rowAt n ⟨(y 0).val, (y 0).isLt⟩) 0) : BitVec 32).toNat % 128
    · rw [if_pos hc, if_pos ⟨by omega, hc⟩]
    · rw [if_neg hc, if_neg fun h => hc h.2]
  · unfold lossBlk lossOf; rfl

/-- What the running buffers are required to hold before point `n`: nothing at a row block's first point, where the body
    resets them, else the state after the blocks before it. -/
def Inv (c : Dev nD) (n : ℕ) (d1 d2 d3 : Vec Ideal S1536x128 .f32) : Prop :=
  n % 297 ≠ 0 → State m c n (n % 297) d1 d2 d3

/-- The state after a point's block is what the next point requires. -/
theorem inv_succ (c : Dev nD) (n : ℕ) (d1 d2 d3 : Vec Ideal S1536x128 .f32) (h : State m c n (n % 297 + 1) d1 d2 d3) :
    Inv m c (n + 1) d1 d2 d3 := by
  intro hn
  have e : (n + 1) % 297 = n % 297 + 1 := by omega
  have er : ∀ p, rowAt (n + 1) p = rowAt n p := fun p => by
    unfold rowAt; apply Fin.ext
    show (1536 * ((n + 1) / 297) + p.val) % 15360 = (1536 * (n / 297) + p.val) % 15360
    rw [show (n + 1) / 297 = n / 297 by omega]
  intro p L
  have := h p L
  rw [e, er]
  exact this

/-! ## The proof data -/

/-- What is carried from point to point: the weight buffer at anything, the running buffers as required, the generator
    register at some state. -/
def PhiV (c : Dev nD) (n : ℕ) : sProp 𝕄 :=
  iprop(iprop((∃ d, owns (c : Thread nD τ) scM0_0 fullShare d)
      ∗ (∃ d1 d2 d3, ⌜Inv m c n d1 d2 d3⌝ ∗ owns (c : Thread nD τ) scM0_1 fullShare d1 ∗ owns (c : Thread nD τ) scM0_2 fullShare d2
          ∗ owns (c : Thread nD τ) scM0_3 fullShare d3)) ∗ (∃ r, prngReg c r))

/-- The proof data: as the frame's, with the loss block at the rows' losses and the running state carried. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Classical.arbitrary _) (iblk m c 3 t)
    | ⟨4, _⟩ => lossBlk m c t.val
  Φ t := PhiV m c t.val
  q _ := fullShare
  owed _ := 0

/-- The proof data's arrays are the launched ones. -/
theorem vA_eq (c : Dev nD) (w : Fin cfg0.W) : (vdats m 0 c).A w = V m c (Pipeline.arrRef spec0 w) := by
  dsimp only [vdats]

/-- What the body leaves in each buffer. -/
theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t
    = win0_3.fill (grid0.coords t) (fun _ => Classical.arbitrary _) (iblk m c 3 t) := by dsimp only [vdats]
theorem vafter4 (c : Dev nD) (t : Fin cfg0.N) : (vdats m 0 c).after 4 t = lossBlk m c t.val := by dsimp only [vdats]

/-- Each whole input's buffer holds its block at every point. -/
theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d
/-- The codes' buffer, fetched at every point, holds its block where the block lies in the array. -/
theorem vbefore3 (c : Dev nD) (t : Fin cfg0.N) (d) :
    (vdats m 0 c).before 3 t d = win0_3.fill (grid0.coords t) d (iblk m c 3 t) := by
  unfold Dat.before; rw [if_pos (fetch0_3 t)]; rfl

/-- The body table's row at a point is the body as the pipeline passes it its buffers. -/
theorem vdefs₀_row (t : Fin cfg0.N) :
    defs₀ (F := Ideal) .tc cfg0.body (cfg0.bodyArgs t (cfg0.slots t)) = bodyAt0 t := by
  unfold defs₀; rw [Defs.onTc_tc]

/-- What the body is called with at a point, buffer by buffer, -/
def vPre (c : Dev nD) (t : Fin cfg0.N) : sProp 𝕄 :=
  iprop(PhiV m c t.val ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d)))

/-- and what it returns: of the codes' buffer only the part inside the array is stated; of the loss buffer, its loss block at
    the point that stores it, else that it is as it was. -/
def vPost (c : Dev nD) (t : Fin cfg0.N) : sProp 𝕄 :=
  iprop(PhiV m c (t.val + 1) ∗ (vdats m 0 c).owesAt () t.succ
    ∗ owns (c : Thread nD τ) (ms0_0 t) fullShare ((vdats m 0 c).after 0 t)
    ∗ owns (c : Thread nD τ) (ms0_1 t) fullShare ((vdats m 0 c).after 1 t)
    ∗ owns (c : Thread nD τ) (ms0_2 t) fullShare ((vdats m 0 c).after 2 t)
    ∗ (∃ d, owns (c : Thread nD τ) (ms0_3 t) fullShare (win0_3.fill (grid0.coords t) d (win0_3.cut (grid0.coords t) ((vdats m 0 c).after 3 t))))
    ∗ (vdats m 0 c).leaves 4 t)

/-- What writes that cover a buffer leave in it. -/
theorem left_eq {sp : Space} {s : Shape} {e : EltTy} (v : View sig .tc sp s e) (f : v.ty.Contents (Elt Ideal))
    (L : List (View.Piece (Elt Ideal) s e)) (h : ∀ y, ∃ p ∈ L, y ∈ p.1.set) {X : s.Idx → Elt Ideal e} (hX : View.canon L = X) :
    v.read (Elt Ideal) (v.writes (Elt Ideal) f L) = X :=
  (funext fun y => View.read_writes_apply_eq_canon v f y L (h y)).trans hX

/-- The body's triple at the first vocabulary block. -/
theorem vsound_A (hV : InVocab m) (c : Dev nD) (t : Fin cfg0.N) (h0 : t.val % 297 = 0) (h1 : ¬t.val % 297 = 296) :
    vPre m c t ⊢ wp frame (wpE (defs₀ (F := Ideal)) Variants.none c none) Set.univ (bodyAt0 t) (fun _ => vPost m c t) := by
  unfold vPre vPost bodyAt0
  rw [vafter0, vafter1, vafter2, vafter3, Window.cut_fill]
  rw [show (vdats m 0 c).owesAt () t.succ = (vdats m 0 c).owesAt () t.castSucc from rfl]
  simp only [vbefore0, vbefore1, vbefore2, vbefore3]
  rw [show (vdats m 0 c).leaves 4 t = iprop(∃ d, owns (c : Thread nD τ) (ms0_4 t) fullShare ((vdats m 0 c).before 4 t d)) from by
    unfold Dat.leaves; rw [idleAt0_4_A t ((hcond0_0 t).mpr h0) (fun h => h1 ((hcond0_1 t).mp h)), noFlush0_4_A t ((hcond0_0 t).mpr h0) (fun h => h1 ((hcond0_1 t).mp h))]]
  unfold PhiV
  iintro ⟨⟨⟨HS0, ⟨%d1, %d2, %d3, %hI, HS1, HS2, HS3⟩⟩, Hg⟩, Ho, ⟨%e0, H0⟩, ⟨%e1, H1⟩, ⟨%e2, H2⟩, ⟨%d, H3⟩, ⟨%d4, H4⟩⟩
  have hS := state_step m hV c t d resetM resetL resetT (by rw [h0]; exact state_reset m c t.val)
  iapply ((kernelRun0_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (win0_3.fill (grid0.coords t) d (iblk m c 3 t))).2.2.2.2.2 ((vdats m 0 c).before 4 t d4) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexists _; iexact HS1
  isplitl [HS2]; · iexists _; iexact HS2
  isplitl [HS3]; · iexists _; iexact HS3
  iintro ⟨H0, H1, H2, H3, H4, ⟨%fT0, HS0⟩, ⟨%es1, HS1⟩, ⟨%es2, HS2⟩, ⟨%es3, HS3⟩⟩
  isplitl [HS0 HS1 HS2 HS3 Hg]
  · isplitl [HS0 HS1 HS2 HS3]
    · isplitl [HS0]
      · iexists _; unfold owns; iexists _; isplitr; swap; iexact HS0; ipureintro; rfl
      iexists _; iexists _; iexists _
      isplitr
      · ipureintro; exact inv_succ m c t.val _ _ _ hS
      isplitl [HS1]
      · unfold owns; iexists _; isplitr
        swap; · iexact HS1
        ipureintro
        exact left_eq _ _ _ (View.cover_of_tiledL (s := S1536x128) _ S1536x128.size (by sl_kernel_rfl)) (caseA_m _ _ _ _ _ _ _ _ _ _ _ _ _ _ _ _ _ _ _ _ _ _ _ _ _ _)
      isplitl [HS2]
      · unfold owns; iexists _; isplitr
        swap; · iexact HS2
        ipureintro
        exact left_eq _ _ _ (View.cover_of_tiledL (s := S1536x128) _ S1536x128.size (by sl_kernel_rfl)) (caseA_l _ _ _ _ _ _ _ _ _ _ _ _ _ _ _ _ _ _ _ _ _ _ _ _ _ _)
      · unfold owns; iexists _; isplitr
        swap; · iexact HS3
        ipureintro
        exact left_eq _ _ _ (View.cover_of_tiledL (s := S1536x128) _ S1536x128.size (by sl_kernel_rfl)) (caseA_t _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists d; iexact H3
  iexists d4; iexact H4

/-- The body's triple at a middle vocabulary block. -/
theorem vsound_B (hV : InVocab m) (c : Dev nD) (t : Fin cfg0.N) (h0 : ¬t.val % 297 = 0) (h1 : ¬t.val % 297 = 296) :
    vPre m c t ⊢ wp frame (wpE (defs₀ (F := Ideal)) Variants.none c none) Set.univ (bodyAt0 t) (fun _ => vPost m c t) := by
  unfold vPre vPost bodyAt0
  rw [vafter0, vafter1, vafter2, vafter3, Window.cut_fill]
  rw [show (vdats m 0 c).owesAt () t.succ = (vdats m 0 c).owesAt () t.castSucc from rfl]
  simp only [vbefore0, vbefore1, vbefore2, vbefore3]
  rw [show (vdats m 0 c).leaves 4 t = iprop(∃ d, owns (c : Thread nD τ) (ms0_4 t) fullShare ((vdats m 0 c).before 4 t d)) from by
    unfold Dat.leaves; rw [idleAt0_4_B t (fun h => h0 ((hcond0_0 t).mp h)) (fun h => h1 ((hcond0_1 t).mp h)), noFlush0_4_B t (fun h => h0 ((hcond0_0 t).mp h)) (fun h => h1 ((hcond0_1 t).mp h))]]
  unfold PhiV
  iintro ⟨⟨⟨HS0, ⟨%d1, %d2, %d3, %hI, HS1, HS2, HS3⟩⟩, Hg⟩, Ho, ⟨%e0, H0⟩, ⟨%e1, H1⟩, ⟨%e2, H2⟩, ⟨%d, H3⟩, ⟨%d4, H4⟩⟩
  have hS := state_step m hV c t d d1 d2 d3 (hI h0)
  iapply ((kernelRun0_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (win0_3.fill (grid0.coords t) d (iblk m c 3 t)) d1 d2 d3).2.2.2.2.2 ((vdats m 0 c).before 4 t d4) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%fT0, HS0⟩, ⟨%es1, HS1⟩, ⟨%es2, HS2⟩, ⟨%es3, HS3⟩⟩
  isplitl [HS0 HS1 HS2 HS3 Hg]
  · isplitl [HS0 HS1 HS2 HS3]
    · isplitl [HS0]
      · iexists _; unfold owns; iexists _; isplitr; swap; iexact HS0; ipureintro; rfl
      iexists _; iexists _; iexists _
      isplitr
      · ipureintro; exact inv_succ m c t.val _ _ _ hS
      isplitl [HS1]
      · unfold owns; iexists _; isplitr
        swap; · iexact HS1
        ipureintro
        exact left_eq _ _ _ (View.cover_of_tiledL (s := S1536x128) _ S1536x128.size (by sl_kernel_rfl)) (caseB_m _ _ _ _ _ _ _ _ _ _ _ _ _ _ _ _ _ _ _ _ _ _ _ _ _ _ _ _ _)
      isplitl [HS2]
      · unfold owns; iexists _; isplitr
        swap; · iexact HS2
        ipureintro
        exact left_eq _ _ _ (View.cover_of_tiledL (s := S1536x128) _ S1536x128.size (by sl_kernel_rfl)) (caseB_l _ _ _ _ _ _ _ _ _ _ _ _ _ _ _ _ _ _ _ _ _ _ _ _ _ _ _ _ _)
      · unfold owns; iexists _; isplitr
        swap; · iexact HS3
        ipureintro
        exact left_eq _ _ _ (View.cover_of_tiledL (s := S1536x128) _ S1536x128.size (by sl_kernel_rfl)) (caseB_t _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists d; iexact H3
  iexists d4; iexact H4

/-- The body's triple at the last vocabulary block. -/
theorem vsound_C (hV : InVocab m) (c : Dev nD) (t : Fin cfg0.N) (h0 : ¬t.val % 297 = 0) (h1 : t.val % 297 = 296) :
    vPre m c t ⊢ wp frame (wpE (defs₀ (F := Ideal)) Variants.none c none) Set.univ (bodyAt0 t) (fun _ => vPost m c t) := by
  unfold vPre vPost bodyAt0
  rw [vafter0, vafter1, vafter2, vafter3, Window.cut_fill]
  rw [show (vdats m 0 c).owesAt () t.succ = (vdats m 0 c).owesAt () t.castSucc from rfl]
  simp only [vbefore0, vbefore1, vbefore2, vbefore3]
  rw [show (vdats m 0 c).leaves 4 t = owns (c : Thread nD τ) (ms0_4 t) fullShare ((vdats m 0 c).after 4 t) from by
    unfold Dat.leaves; rw [liveAt0_4_C t (fun h => h0 ((hcond0_0 t).mp h)) ((hcond0_1 t).mpr h1)], vafter4]
  unfold PhiV
  iintro ⟨⟨⟨HS0, ⟨%d1, %d2, %d3, %hI, HS1, HS2, HS3⟩⟩, Hg⟩, Ho, ⟨%e0, H0⟩, ⟨%e1, H1⟩, ⟨%e2, H2⟩, ⟨%d, H3⟩, ⟨%d4, H4⟩⟩
  have hS := state_step m hV c t d d1 d2 d3 (hI h0)
  iapply ((kernelRun0_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (win0_3.fill (grid0.coords t) d (iblk m c 3 t)) d1 d2 d3).2.2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, ⟨%fT0, HS0⟩, ⟨%es1, HS1⟩, ⟨%es2, HS2⟩, ⟨%es3, HS3⟩⟩
  isplitl [HS0 HS1 HS2 HS3 Hg]
  · isplitl [HS0 HS1 HS2 HS3]
    · isplitl [HS0]
      · iexists _; unfold owns; iexists _; isplitr; swap; iexact HS0; ipureintro; rfl
      iexists _; iexists _; iexists _
      isplitr
      · ipureintro; exact inv_succ m c t.val _ _ _ hS
      isplitl [HS1]
      · unfold owns; iexists _; isplitr
        swap; · iexact HS1
        ipureintro
        exact left_eq _ _ _ (View.cover_of_tiledL (s := S1536x128) _ S1536x128.size (by sl_kernel_rfl)) (caseC_m _ _ _ _ _ _ _ _ _ _ _ _ _ _ _ _ _ _ _ _ _ _ _ _ _ _ _ _ _)
      isplitl [HS2]
      · unfold owns; iexists _; isplitr
        swap; · iexact HS2
        ipureintro
        exact left_eq _ _ _ (View.cover_of_tiledL (s := S1536x128) _ S1536x128.size (by sl_kernel_rfl)) (caseC_l _ _ _ _ _ _ _ _ _ _ _ _ _ _ _ _ _ _ _ _ _ _ _ _ _ _ _ _ _)
      · unfold owns; iexists _; isplitr
        swap; · iexact HS3
        ipureintro
        exact left_eq _ _ _ (View.cover_of_tiledL (s := S1536x128) _ S1536x128.size (by sl_kernel_rfl)) (caseC_t _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists d; iexact H3
  unfold owns; iexists _; isplitr
  swap; · iexact H4
  ipureintro
  refine left_eq _ _ _ (View.cover_of_tiledL (s := S1536x1) _ S1536x1.size (by sl_kernel_rfl)) ((caseC_loss _ _ _ _ _ _ _ _ _ _ _ _ _ _ _ _ _ _ _ _ _ _ _ _ _ _ _ _ _).trans ?_)
  rw [h1] at hS
  exact state_loss m hV c t.val _ _ _ hS

/-- The body's triple at any point. -/
theorem vsound (hV : InVocab m) (c : Dev nD) (t : Fin cfg0.N) :
    vPre m c t ⊢ wp frame (wpE (defs₀ (F := Ideal)) Variants.none c none) Set.univ (bodyAt0 t) (fun _ => vPost m c t) := by
  by_cases h0 : t.val % 297 = 0
  · exact vsound_A m hV c t h0 (by omega)
  by_cases h1 : t.val % 297 = 296
  · exact vsound_C m hV c t h0 h1
  · exact vsound_B m hV c t h0 h1

/-- The body obligation at every point. -/
theorem vobligation (hV : InVocab m) (c : Dev nD) :
    BodyObligationLoose (vdats m 0 c) (defs₀ (F := Ideal)) Variants.none () Set.univ := fun t => by
  rw [bigSep_W0, bigSep_W0, vdefs₀_row]
  exact triple_restated (vsound m hV c t) rfl .rfl fun _ => .rfl

/-- What the launch hands over is what is carried before the first point. -/
theorem vin (c : Dev nD) : Pipeline.ΦA spec0 c ⊢ (vdats m 0 c).Φ 0 := by
  rw [show (vdats m 0 c).Φ 0 = PhiV m c 0 from rfl, PhiA0_eq]
  unfold PhiV
  iintro ⟨⟨HS0, ⟨%d1, HS1⟩, ⟨%d2, HS2⟩, ⟨%d3, HS3⟩⟩, Hg⟩
  isplitl [HS0 HS1 HS2 HS3]
  · isplitl [HS0]; · iexact HS0
    iexists d1; iexists d2; iexists d3
    isplitr
    · ipureintro; exact fun h => absurd rfl h
    isplitl [HS1]; · iexact HS1
    isplitl [HS2]; · iexact HS2
    iexact HS3
  iexact Hg

/-- And what is carried after the last point is what the launch takes back. -/
theorem vout (c : Dev nD) : (vdats m 0 c).Φ (Fin.last cfg0.N) ⊢ Pipeline.ΦA spec0 c := by
  rw [show (vdats m 0 c).Φ (Fin.last cfg0.N) = PhiV m c (Fin.last cfg0.N).val from rfl, PhiA0_eq]
  unfold PhiV
  iintro ⟨⟨HS0, ⟨%d1, %d2, %d3, %hI, HS1, HS2, HS3⟩⟩, Hg⟩
  isplitl [HS0 HS1 HS2 HS3]
  · isplitl [HS0]; · iexact HS0
    isplitl [HS1]; · iexists d1; iexact HS1
    isplitl [HS2]; · iexists d2; iexact HS2
    iexists d3; iexact HS3
  iexact Hg

set_option backward.isDefEq.respectTransparency.types false in
/-- The launch: every execution ends with every array at what the proof data say. -/
theorem vrun (hV : InVocab m) : θ_run defs (onTc (τ := τ) (main (F := Ideal))) (s₀ m ρ) (Pipeline.FramePost cfgs (vdats m) 0 (V m)) :=
  Pipeline.θ_run_frame_track (Q' := _) cfgs (vdats m) (0 : Fin 1) launch0 defs₀ Variants.none m ρ main
    (hbody := fun c => vobligation m hV c) (hshare := fun c => (vdats m 0 c).share_full fun _ => rfl)
    (howed := fun _ _ => rfl) (V := V m) (hmain := hmain m Variants.none) (hA := vA_eq m) (hin := vin m) (hout := vout m)

/-! ## The loss array -/

/-- The losses, as the array. -/
def lossArr (c : Dev nD) : Vec Ideal S15360x1 .f32 := fun y =>
  lossOf (YD m c) (TG m c) (CD m c) (SC m c) ⟨(y 0).val, (y 0).isLt⟩

/-- What a point writes back is its block of the losses. -/
theorem vflushed (c : Dev nD) (t : Fin cfg0.N) :
    (vdats m 0 c).flushed 4 t = ((cfg0.win 4).blk t).view.read (Elt Ideal) (lossArr m c) := by
  have ht : t.val < 2970 := Nat.lt_of_lt_of_eq t.isLt N_0
  show (cfg0.win 4).cut (grid0.coords t) ((vdats m 0 c).after 4 t) = _
  rw [vafter4]
  funext y
  have hy0 : (y 0).val < 1536 := (y 0).isLt
  have hb0 : (((cfg0.win 4).blk t).view.emb y 0).val = win0_4.index t (0 : Fin 2) * 1536 + 1 * (y 0).val := rfl
  show lossOf (YD m c) (TG m c) (CD m c) (SC m c) (rowAt t.val ⟨(y 0).val, _⟩)
    = lossOf (YD m c) (TG m c) (CD m c) (SC m c) ⟨(((cfg0.win 4).blk t).view.emb y 0).val, _⟩
  refine congrArg (lossOf (YD m c) (TG m c) (CD m c) (SC m c)) (Fin.ext ?_)
  show (1536 * (t.val / 297) + (y 0).val) % 15360 = (((cfg0.win 4).blk t).view.emb y 0).val
  rw [hb0, index4_0]; omega

/-- An index of the array is in point `t`'s block iff each coordinate is in the block's range on its axis. -/
theorem vmem_blk (t : Fin cfg0.N) (i : S15360x1.Idx) :
    i ∈ ((cfg0.win 4).blk t).view.set ↔ ∀ a : Fin 2, win0_4.index t a * S1536x1.size a ≤ (i a).val ∧ (i a).val < win0_4.index t a * S1536x1.size a + S1536x1.size a := by
  show i ∈ ((View.whole main_v0).slice (win0_4.rect t)).set ↔ _
  rw [View.set_slice_whole, Rect.mem_set_unit]
  exact Iff.rfl

/-- Every row is in the block some point writes back. -/
theorem vcover (i : S15360x1.Idx) : ∃ t : Fin cfg0.N, (cfg0.win 4).flush t = true ∧ i ∈ ((cfg0.win 4).blk t).view.set := by
  have hi0 : (i 0).val < 15360 := (i 0).isLt
  have hi1 : (i 1).val < 1 := (i 1).isLt
  refine ⟨⟨297 * ((i 0).val / 1536) + 296, lt_of_lt_of_eq (by omega) N_0.symm⟩, (flush0_4 _).mpr (by show (297 * ((i 0).val / 1536) + 296) % 297 = 296; omega), ?_⟩
  rw [vmem_blk]
  intro a
  match a with
  | ⟨0, _⟩ =>
    have e := index4_0 ⟨297 * ((i 0).val / 1536) + 296, lt_of_lt_of_eq (by omega) N_0.symm⟩
    show win0_4.index _ (0 : Fin 2) * 1536 ≤ (i 0).val ∧ (i 0).val < win0_4.index _ (0 : Fin 2) * 1536 + 1536
    rw [e]
    show (297 * ((i 0).val / 1536) + 296) / 297 * 1536 ≤ (i 0).val ∧ (i 0).val < (297 * ((i 0).val / 1536) + 296) / 297 * 1536 + 1536
    omega
  | ⟨1, _⟩ => show 0 * 1 ≤ (i 1).val ∧ (i 1).val < 0 * 1 + 1; omega

/-- The array after the run: the losses. -/
theorem vfinal (c : Dev nD) : (vdats m 0 c).arrAt 4 cfg0.N = lossArr m c :=
  (vdats m 0 c).arrAt_eq_of_cover 4 _ (fun t _ => vflushed m c t) vcover

/-- The run: the result array ends at the rows' losses, the arguments as they were. -/
theorem run_loss (hV : InVocab m) : θ_run defs (onTc (τ := τ) (main (F := Ideal))) ⟨m, fun _ => 0, ρ⟩ fun r => ∀ c : Dev nD,
      r.2.mem ((c.tc : Thread nD τ).loc main_v0) = lossArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (vfinal m c),
      ((h c).1 1).trans (((vdats m 0 c).arrAt_in 1 rfl _).trans ((vA_eq m c 1).trans (V_main_arg0 m c))),
      ((h c).1 2).trans (((vdats m 0 c).arrAt_in 2 rfl _).trans ((vA_eq m c 2).trans (V_main_arg1 m c))),
      ((h c).1 3).trans (((vdats m 0 c).arrAt_in 3 rfl _).trans ((vA_eq m c 3).trans (V_main_arg2 m c))),
      ((h c).1 0).trans (((vdats m 0 c).arrAt_in 0 rfl _).trans ((vA_eq m c 0).trans (V_main_arg3 m c)))⟩) (vrun m ρ hV)

end Cert.KernelIdeal.Hand

end
-- ==== Proof.Exact.RefRead.lean ====
/- The reference's result in the ideal values, read element by element: the rows' losses. -/
module

public import proofs.«01_k».proof.Proof.Gen.ReferenceIdeal.Read
public import proofs.«01_k».proof.Proof.Exact.Logits
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic Idealize.SL.Sem
open Idealize.ShloMosaic.ValueIdx (takeIdx gather_take_apply)
open Cert.KernelIdeal.Hand (logit lossOf)

open scoped BigOperators

/-! ## The widened codes -/

variable (m : (ℓ : Loc nD τ sig) → Buf (Elt Ideal) ℓ)

/-- What the widening leaves: the codes themselves, exactly. -/
theorem widened (c : Dev nD) : (Value.reg_main_v0 m c : Vec Ideal S2560x151936 .bf16)
    = fun i => (m ((c.tc : Thread nD τ).loc main_arg2) : Vec Ideal S2560x151936 .fp8e4m3) i := by
  unfold Value.reg_main_v0
  refine (dats m 0 c).arrAt_eq_of_after_last 1 t0_0 (by decide +kernel) _ fun j => ?_
  rw [after0_1]
  unfold out0_1
  rw [View.canon_unit_zero (by funext d; match d with | ⟨0, _⟩ => rfl | ⟨1, _⟩ => rfl)]
  rw [View.ld_unit_zero (by funext d; match d with | ⟨0, _⟩ => rfl | ⟨1, _⟩ => rfl)]
  show (iblk m c 0 t0_0 (fun a => ⟨(j a).val, (j a).isLt⟩) : EReal) = _
  unfold iblk
  rw [show V m c (Pipeline.arrRef spec0 0) = m ((c.tc : Thread nD τ).loc main_arg2) from V_main_arg2 m c]
  refine congrArg (m ((c.tc : Thread nD τ).loc main_arg2)) (funext fun a => Fin.ext ?_)
  match a with
  | ⟨0, _⟩ => show 0 * 2560 + 1 * (j (0 : Fin 2)).val = (j (0 : Fin 2)).val; omega
  | ⟨1, _⟩ => show 0 * 151936 + 1 * (j (1 : Fin 2)).val = (j (1 : Fin 2)).val; omega

/-! ## The logits -/

section Logits
variable (yd : Vec Ideal S15360x2560 .bf16) (tg : Vec Ideal S15360x1 .i32) (cd : Vec Ideal S2560x151936 .fp8e4m3) (sc : Vec Ideal S20x1187 .f32)

/-- The codes, widened. -/
abbrev wide : Vec Ideal S2560x151936 .bf16 := fun i => cd i

/-- A dequantised weight: the code times its tile's scale. -/
theorem weight_at (k : Fin 2560) (j : Fin 151936) :
    (val_main_v6 (F := Ideal) sc (wide cd) (ix2 k j) : EReal)
      = (cd (ix2 k j) : EReal) * (sc (ix2 ⟨k.val / 128, by omega⟩ ⟨j.val / 128, by omega⟩) : EReal) := by
  rw [val_main_v6_apply, val_main_v5_apply, val_main_v1_apply, val_main_v4_apply, val_main_v3_apply, val_main_v2_apply]
  show (cd _ : EReal) * (sc _ : EReal) = _
  have hk := k.isLt
  have hj := j.isLt
  congr 1
  · refine congrArg cd (funext fun a => Fin.ext ?_)
    match a with
    | ⟨0, _⟩ => show ((((k.val * 151936 + j.val) / 19447808 * 128 + (k.val * 151936 + j.val) / 151936 % 128) * 1187 + (k.val * 151936 + j.val) / 128 % 1187) * 128 + (k.val * 151936 + j.val) % 128) / 151936 = k.val; omega
    | ⟨1, _⟩ => show ((((k.val * 151936 + j.val) / 19447808 * 128 + (k.val * 151936 + j.val) / 151936 % 128) * 1187 + (k.val * 151936 + j.val) / 128 % 1187) * 128 + (k.val * 151936 + j.val) % 128) % 151936 = j.val; omega
  · refine congrArg sc (funext fun a => Fin.ext ?_)
    match a with
    | ⟨0, _⟩ => show (k.val * 151936 + j.val) / 19447808 = k.val / 128; omega
    | ⟨1, _⟩ => show (k.val * 151936 + j.val) / 128 % 1187 = j.val / 128; omega

/-- The reference's logits. -/
theorem logit_at (r : Fin 15360) (j : Fin 151936) :
    (val_main_v7 (F := Ideal) yd sc (wide cd) (ix2 r j) : EReal) = logit yd cd sc r j.val := by
  rw [val_main_v7_apply]
  unfold logit
  rw [dif_pos j.isLt]
  refine Finset.sum_congr rfl fun k _ => ?_
  have e1 : lidx_main_v7 (ix2 r j) k = ix2 r k := by
    funext a; match a with | ⟨0, _⟩ => rfl | ⟨1, _⟩ => rfl
  have e2 : ridx_main_v7 (ix2 r j) k = ix2 k j := by
    funext a; match a with | ⟨0, _⟩ => rfl | ⟨1, _⟩ => rfl
  rw [e1, e2, weight_at]

/-- A row's maximum. -/
theorem max_at (i : S15360.Idx) (r : Fin 15360) (hi : (i 0).val = r.val) :
    (val_main_v8 (F := Ideal) yd sc (wide cd) i : EReal)
      = Finset.univ.sup (fun j : Fin 151936 => logit yd cd sc r j.val) := by
  unfold val_main_v8
  have h : S15360x151936.Reduces [1] S15360 := by decide
  rw [Host.reduce_eq_fold_single FloatOps.maximumf _ _ reducesTo_S15360x151936_S15360_d1 h h_S_]
  have e0 : val_main_cst (F := Ideal) (Shape.Idx.first h_S_) = (⊥ : EReal) := Cert.KernelIdeal.Hand.negInf
  rw [e0]
  refine Finset.sup_congr (s₁ := (Finset.univ : Finset (Fin 151936))) rfl fun j _ => ?_
  refine Eq.trans ?_ (logit_at yd cd sc r j)
  exact congrArg (val_main_v7 (F := Ideal) yd sc (wide cd)) (funext fun a => by match a with | ⟨0, _⟩ => exact Fin.ext hi | ⟨1, _⟩ => rfl)

/-- A row's sum of exponentials. -/
theorem sum_at (i : S15360.Idx) (r : Fin 15360) (hi : (i 0).val = r.val) :
    (val_main_v13 (F := Ideal) yd sc (wide cd) i : EReal)
      = ∑ j : Fin 151936, Ideal.exp (logit yd cd sc r j.val
          - Finset.univ.sup (fun j : Fin 151936 => logit yd cd sc r j.val)) := by
  rw [val_main_v13_apply]
  have e0 : val_main_cst_0 (F := Ideal) (Shape.Idx.first h_S_) = (0 : EReal) := by
    show Ideal.ofBits .f32 0#32 = 0
    simp [Ideal.ofBits, Ideal.ieee]
  rw [e0]
  refine (zero_add _).trans (Finset.sum_congr rfl fun j _ => ?_)
  rw [val_main_v12_apply, val_main_v11_apply, val_main_v10_apply, val_main_v9_apply, max_at yd cd sc (idx_main_v9 (idx_main_v10 (idx_main_v13 i j))) r hi]
  have e1 : idx_main_v13 i j = ix2 r j := by
    funext a; match a with | ⟨0, _⟩ => exact Fin.ext hi | ⟨1, _⟩ => rfl
  rw [e1]
  show Ideal.exp ((val_main_v7 (F := Ideal) yd sc (wide cd) (ix2 r j) : EReal) - _) = _
  rw [logit_at]

/-! ## The logit at the target -/

/-- The gather along the rows reads, at row `b`, the operand's row `b` at the start index read signed and clamped. -/
theorem gather_cols (x : S15360x151936.Idx → EReal) (idx : IVec S15360x1x1 32) (y : S15360x1.Idx) (r : Fin 15360) (hy : (y 0).val = r.val) :
    Host.gather gather_S15360x151936_S15360x1x1_S15360x1_n_1_0_0_1_2_11 x idx y
      = x (ix2 r ⟨min (idx (takeIdx y)).toInt.toNat (151936 - 1), by omega⟩) := by
  unfold Host.gather
  congr 1
  funext a
  refine Fin.ext ?_
  set D := gather_S15360x151936_S15360x1x1_S15360x1_n_1_0_0_1_2_11 with hD
  show D.start y idx a + D.batchCoord y a + D.offCoord y a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ D.operandBatchingDims from List.mem_singleton.mpr rfl)]
    exact hy
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl)]
    have hsi : D.siIdx y ⟨List.idxOf (1 : Fin 2) D.startIndexMap,
        List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    rfl

/-- The target as the gather's start index, where it is a column of the vocabulary. -/
theorem start_at (i : S15360x1x1.Idx) (r : Fin 15360) (hi : (i 0).val = r.val) (h : (tg (ix2 r 0) : BitVec 32).toNat < 151936) :
    (val_main_call0_v5 (F := Ideal) tg i : BitVec 32) = tg (ix2 r 0) := by
  have hi1 : (i 1).val < 1 := (i 1).isLt
  have hi2 : (i 2).val < 1 := (i 2).isLt
  have e : idx_main_call0_v5 i = ix2 r 0 := by
    funext a
    match a with
    | ⟨0, _⟩ => exact Fin.ext (by show (((i 0).val * 1 + (i 1).val) * 1 + (i 2).val) / 1 = r.val; omega)
    | ⟨1, _⟩ => rfl
  rw [val_main_call0_v5_apply, e, val_main_call0_v4_apply, val_main_call0_v1_apply, val_main_call0_v0_apply, val_main_call0_c_apply]
  generalize (tg (ix2 r 0) : BitVec 32) = w at h ⊢
  have : BitVec.slt w 0#32 = false := by
    rw [BitVec.slt_eq_decide, decide_eq_false_iff_not]
    rw [BitVec.toInt_eq_toNat_of_lt (by omega)]
    simp
  show (if BitVec.ofBool (BitVec.slt w 0#32) = 1#1 then _ else _) = _
  rw [this]
  rfl

/-- The range check passes where the target is a column of the vocabulary. -/
theorem inRange_at (i : S15360x1.Idx) (r : Fin 15360) (hi : (i 0).val = r.val) (h : (tg (ix2 r 0) : BitVec 32).toNat < 151936) :
    (val_main_call0_v12 (F := Ideal) tg i : BitVec 1) = 1#1 := by
  unfold val_main_call0_v12
  have hr : S15360x1x1.Reduces [2] S15360x1 := by decide
  rw [Host.reduce_eq_fold_single IntOp.andi _ _ reducesTo_S15360x1x1_S15360x1_d2 hr h_S_]
  have hall : ∀ k, (val_main_call0_v11 (F := Ideal) tg ∘ hr.lift i) k = 1#1 := by
    intro k
    show val_main_call0_v11 (F := Ideal) tg (hr.lift i k) = 1#1
    have hz : ((hr.lift i k) 0).val = r.val := hi
    rw [val_main_call0_v11_apply, val_main_call0_v7_apply, val_main_call0_v10_apply, start_at tg _ r hz h,
      val_main_call0_v6_apply, val_main_call0_v9_apply, val_main_call0_v8_apply, val_main_call0_c_1_apply, val_main_call0_c_2_apply]
    generalize (tg (ix2 r 0) : BitVec 32) = w at h ⊢
    have h1 : BitVec.sle 0#32 w = true := by
      rw [BitVec.sle_eq_decide, decide_eq_true_eq, BitVec.toInt_eq_toNat_of_lt (x := w) (by omega)]
      simp
    have h2 : BitVec.sle w 151935#32 = true := by
      rw [BitVec.sle_eq_decide, decide_eq_true_eq, BitVec.toInt_eq_toNat_of_lt (x := w) (by omega)]
      have : (151935#32 : BitVec 32).toInt = 151935 := by decide
      omega
    show BitVec.ofBool (BitVec.sle 0#32 w) &&& BitVec.ofBool (BitVec.sle w 151935#32) = 1#1
    rw [h1, h2]; rfl
  rw [funext hall]
  show (Finset.univ : Finset (Fin 1)).fold IntOp.andi (1#1) (fun _ => 1#1) = 1#1
  decide

/-- The gathered logit is the target's. -/
theorem target_at (i : S15360x1.Idx) (r : Fin 15360) (hi : (i 0).val = r.val) (h : (tg (ix2 r 0) : BitVec 32).toNat < 151936) :
    (val_main_v16 (F := Ideal) yd tg sc (wide cd) i : EReal)
      = logit yd cd sc r (tg (ix2 r 0) : BitVec 32).toNat := by
  rw [val_main_v16_apply, inRange_at tg i r hi h]
  refine (show Scalar.select (1#1) (val_main_call0_v13 (F := Ideal) yd tg sc (wide cd) i) _ = val_main_call0_v13 (F := Ideal) yd tg sc (wide cd) i from rfl).trans ?_
  unfold val_main_call0_v13
  rw [gather_cols _ _ i r hi]
  have es : (val_main_call0_v5 (F := Ideal) tg (takeIdx i) : BitVec 32) = tg (ix2 r 0) := start_at tg (takeIdx i) r hi h
  rw [logit_at]
  refine congrArg (logit yd cd sc _) ?_
  show min (val_main_call0_v5 (F := Ideal) tg (takeIdx i) : BitVec 32).toInt.toNat (151936 - 1) = _
  rw [es]
  generalize (tg (ix2 r 0) : BitVec 32) = w at h ⊢
  rw [BitVec.toInt_eq_toNat_of_lt (by omega)]
  simp only [Int.toNat_natCast]
  omega

/-- The reference's result is the rows' losses. -/
theorem result_at (hV : ∀ r : Fin 15360, (tg (ix2 r 0) : BitVec 32).toNat < 151936) (i : S15360x1.Idx) :
    (val_main_v21 (F := Ideal) yd tg sc (wide cd) i : EReal) = lossOf yd tg cd sc ⟨(i 0).val, (i 0).isLt⟩ := by
  have hlt : (i 0).val < 15360 := (i 0).isLt
  rw [val_main_v21_apply, val_main_v20_apply, val_main_v18_apply, val_main_v15_apply, val_main_v14_apply, val_main_v17_apply,
    val_main_v19_apply, max_at yd cd sc _ ⟨(i 0).val, hlt⟩ rfl, sum_at yd cd sc _ ⟨(i 0).val, hlt⟩ rfl]
  have e : idx_main_v17 (idx_main_v21 i) = ix2 ⟨(i 0).val, hlt⟩ 0 := by
    funext a
    match a with
    | ⟨0, _⟩ => exact Fin.ext (by show (i 0).val / 1 = (i 0).val; omega)
    | ⟨1, _⟩ => rfl
  rw [e, target_at yd tg cd sc (ix2 ⟨(i 0).val, hlt⟩ 0) ⟨(i 0).val, hlt⟩ rfl (hV _), val_main_cst_1_apply]
  unfold lossOf
  generalize Finset.univ.sup (fun j : Fin 151936 => logit yd cd sc ⟨(i 0).val, hlt⟩ j.val) = M
  generalize (∑ j : Fin 151936, Ideal.exp (logit yd cd sc ⟨(i 0).val, hlt⟩ j.val - M)) = Z
  generalize logit yd cd sc ⟨(i 0).val, hlt⟩ _ = T
  rfl

end Logits

/-- The reference's result over the launch's arguments, where the targets are columns of the vocabulary. -/
theorem result_eq (c : Dev nD)
    (hV : ∀ r : Fin 15360, ((m ((c.tc : Thread nD τ).loc main_arg1) : Vec Ideal S15360x1 .i32) (ix2 r 0) : BitVec 32).toNat < 151936) :
    (Value.res_main_v21 m c : Vec Ideal S15360x1 .f32)
      = fun i => lossOf (m ((c.tc : Thread nD τ).loc main_arg0)) (m ((c.tc : Thread nD τ).loc main_arg1))
          (m ((c.tc : Thread nD τ).loc main_arg2)) (m ((c.tc : Thread nD τ).loc main_arg3)) ⟨(i 0).val, (i 0).isLt⟩ := by
  have h : (Value.res_main_v21 m c : Vec Ideal S15360x1 .f32)
      = val_main_v21 (F := Ideal) (m ((c.tc : Thread nD τ).loc main_arg0)) (m ((c.tc : Thread nD τ).loc main_arg1))
          (m ((c.tc : Thread nD τ).loc main_arg3)) (Value.reg_main_v0 m c) := by
    unfold Value.res_main_v21; rfl
  rw [h, widened]
  funext i
  exact result_at _ _ _ _ hV i

end Cert.ReferenceIdeal.Hand

end
-- ==== Proof.lean ====
/- The five claims about the head call: it runs and leaves its arguments alone (at the machine's floats and at the
   idealised ones), so does the reference, the idealised program is the program's own text, and at the idealised floats the
   two losses are equal wherever the targets name columns of the vocabulary. -/
module

public import proofs.«01_k».proof.Defs
public import proofs.«01_k».proof.Proof.Gen.Pre_targets_in_vocab
public import proofs.«01_k».proof.Proof.Gen.ReferenceIdeal.Frame
public import proofs.«01_k».proof.Proof.Bits.Frame
public import proofs.«01_k».proof.Proof.Exact.Frame
public import proofs.«01_k».proof.Proof.Exact.Value
public import proofs.«01_k».proof.Proof.Exact.RefRead

@[expose] public section

noncomputable section

namespace Cert.Proof

open Idealize.ShloMosaic Idealize.SL.Sem

/-- The precondition, read: every target is a column of the vocabulary. -/
theorem inVocab (m : (ℓ : Loc KernelIdeal.nD KernelIdeal.τ KernelIdeal.sig) → Buf (Elt Ideal) ℓ)
    (h : Pre_KernelIdeal_targets_in_vocab (hPre_targets_in_vocab := Pre_targets_in_vocab.Gen.facts) m) :
    KernelIdeal.Hand.InVocab m := by
  intro c r
  have e := congrFun (h c) (ix2 r 0)
  generalize hw : (KernelIdeal.Hand.TG m c (ix2 r 0) : BitVec 32) = w
  have e' : BitVec.ofBool (BitVec.sle 0#32 (KernelIdeal.Hand.TG m c (ix2 r 0) : BitVec 32))
      &&& BitVec.ofBool (BitVec.slt (KernelIdeal.Hand.TG m c (ix2 r 0) : BitVec 32) 151936#32) = 1#1 := e
  rw [hw] at e'
  have h1 : BitVec.sle 0#32 w = true := by
    cases hb : BitVec.sle 0#32 w with
    | true => rfl
    | false => rw [hb] at e'; revert e'; cases BitVec.slt w 151936#32 <;> decide
  have h2 : BitVec.slt w 151936#32 = true := by
    cases hb : BitVec.slt w 151936#32 with
    | true => rfl
    | false => rw [hb] at e'; revert e'; cases BitVec.sle 0#32 w <;> decide
  rw [BitVec.sle_eq_decide, decide_eq_true_eq] at h1
  rw [BitVec.slt_eq_decide, decide_eq_true_eq] at h2
  have z0 : (0#32 : BitVec 32).toInt = 0 := by decide
  have z1 : (151936#32 : BitVec 32).toInt = 151936 := by decide
  rw [z0] at h1
  rw [z1] at h2
  have hc := BitVec.toInt_eq_toNat_cond w
  have hl := w.isLt
  split at hc <;> omega

/-- At the idealised floats the kernel's losses are the reference's. -/
theorem equal : algebraic_KernelIdeal_ReferenceIdeal_pre_targets_in_vocab (hKernelIdeal := KernelIdeal.Gen.facts)
    (hReferenceIdeal := ReferenceIdeal.Gen.facts) (hPre_targets_in_vocab := Pre_targets_in_vocab.Gen.facts) := by
  intro m g m' g' hpre hagree
  have hV := inVocab m hpre
  refine ⟨fun c => KernelIdeal.Hand.lossArr m c, KernelIdeal.Hand.run_loss m g hV, ?_⟩
  refine (θ_run _ _ _).mono (fun r h c => ?_) (ReferenceIdeal.Value.run m' g')
  obtain ⟨a0, a1, a2, a3⟩ := hagree c
  refine ⟨(h c).1.trans ((ReferenceIdeal.Hand.result_eq m' c ?_).trans ?_), (h c).2⟩
  · intro r
    rw [a1]
    exact hV c r
  · rw [a0, a1, a2, a3]
    rfl

/-- Everything claimed. -/
theorem claim : Cert.Claim := ⟨Cert.Kernel.Gen.facts, Cert.KernelIdeal.Gen.facts, Cert.ReferenceIdeal.Gen.facts,
  Cert.Pre_targets_in_vocab.Gen.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  equal⟩

end Cert.Proof

end
